-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_0) = v0 c
          ∧ r.2.mem ((c.tc : Thread Cert.ReferenceIdeal.nD Cert.ReferenceIdeal.τ).loc Cert.ReferenceIdeal.main_v22_1) = v1 c
          ∧ r.2.mem ((c.tc : Thread Cert.ReferenceIdeal.nD Cert.ReferenceIdeal.τ).loc Cert.ReferenceIdeal.main_v22_2) = v2 c
          ∧ r.2.mem ((c.tc : Thread Cert.ReferenceIdeal.nD Cert.ReferenceIdeal.τ).loc Cert.ReferenceIdeal.main_v22_3) = v3 c
          ∧ r.2.mem ((c.tc : Thread Cert.ReferenceIdeal.nD Cert.ReferenceIdeal.τ).loc Cert.ReferenceIdeal.main_v22_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S4096 : Shape := ⟨1, ![4096]⟩
abbrev S4096x12288 : Shape := ⟨2, ![4096, 12288]⟩
abbrev S12288 : Shape := ⟨1, ![12288]⟩
abbrev S8x2048 : Shape := ⟨2, ![8, 2048]⟩
abbrev S64 : Shape := ⟨1, ![64]⟩
abbrev S_ : Shape := ⟨0, ![]⟩
abbrev S128 : Shape := ⟨1, ![128]⟩
abbrev S1x128 : Shape := ⟨2, ![1, 128]⟩
abbrev S16384x4096 : Shape := ⟨2, ![16384, 4096]⟩
abbrev S1x4096 : Shape := ⟨2, ![1, 4096]⟩
abbrev S1x12288 : Shape := ⟨2, ![1, 12288]⟩
abbrev S16384x1 : Shape := ⟨2, ![16384, 1]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩
abbrev S1024x1024 : Shape := ⟨2, ![1024, 1024]⟩
abbrev S1024x128 : Shape := ⟨2, ![1024, 128]⟩
abbrev S128x4096 : Shape := ⟨2, ![128, 4096]⟩
abbrev S128x1 : Shape := ⟨2, ![128, 1]⟩

abbrev nBuf : Space → Nat
  | .hbm => 32
  | .vmem => 22
  | .smem => 0
  | _ => 0

abbrev bufTy : (tb : Table) → Fin (tcTables nBuf tb) → BufTy
  | .hbm, ⟨0, _⟩ => ⟨S8x2048x4096, .bf16⟩
  | .hbm, ⟨1, _⟩ => ⟨S4096, .f32⟩
  | .hbm, ⟨2, _⟩ => ⟨S4096x12288, .fp8e4m3⟩
  | .hbm, ⟨3, _⟩ => ⟨S12288, .f32⟩
  | .hbm, ⟨4, _⟩ => ⟨S8x2048, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S128, .f32⟩
  | .hbm, ⟨22, _⟩ => ⟨S1x128, .f32⟩
  | .hbm, ⟨23, _⟩ => ⟨S16384x4096, .bf16⟩
  | .hbm, ⟨24, _⟩ => ⟨S1x4096, .f32⟩
  | .hbm, ⟨25, _⟩ => ⟨S1x12288, .f32⟩
  | .hbm, ⟨26, _⟩ => ⟨S16384x1, .i32⟩
  | .hbm, ⟨27, _⟩ => ⟨S16384x4096, .bf16⟩
  | .hbm, ⟨28, _⟩ => ⟨S16384x4096, .bf16⟩
  | .hbm, ⟨29, _⟩ => ⟨S16384x4096, .bf16⟩
  | .hbm, ⟨30, _⟩ => ⟨S16384x4096, .fp8e4m3⟩
  | .hbm, ⟨31, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S1x4096, .f32⟩
  | .local _ .vmem, ⟨3, _⟩ => ⟨S4096x1024, .fp8e4m3⟩
  | .local _ .vmem, ⟨4, _⟩ => ⟨S4096x1024, .fp8e4m3⟩
  | .local _ .vmem, ⟨5, _⟩ => ⟨S1x1024, .f32⟩
  | .local _ .vmem, ⟨6, _⟩ => ⟨S1x1024, .f32⟩
  | .local _ .vmem, ⟨7, _⟩ => ⟨S1024x1, .i32⟩
  | .local _ .vmem, ⟨8, _⟩ => ⟨S1024x1, .i32⟩
  | .local _ .vmem, ⟨9, _⟩ => ⟨S1x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x4096, .fp8e4m3⟩
  | .local _ .vmem, ⟨17, _⟩ => ⟨S1024x4096, .fp8e4m3⟩
  | .local _ .vmem, ⟨18, _⟩ => ⟨S1024x1, .f32⟩
  | .local _ .vmem, ⟨19, _⟩ => ⟨S1024x1, .f32⟩
  | .local _ .vmem, ⟨20, _⟩ => ⟨S1024x128, .f32⟩
  | .local _ .vmem, ⟨21, _⟩ => ⟨S1024x128, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32_7 : BitVec 32 := 8#32
  let v14 : BitVec 32 := Scalar.addi c0_i32_6 c8_i32_7
  let c1_i32 : BitVec 32 := 1#32
  ⟨c0_i32_6, v14, c1_i32⟩
def k0_off1 (k0_t1 : Fin k0_t1_loop.trips) : Fin 2 → Nat :=
  let c0_i32_6 : BitVec 32 := 0#32
  let c1_i32 : BitVec 32 := 1#32
  let arg15 : BitVec 32 := Scf.iv c0_i32_6 c1_i32 k0_t1
  let c128_i32 : BitVec 32 := 128#32
  let v37 : BitVec 32 := Scalar.muli arg15 c128_i32
  let v38 : Index := Scalar.indexCast v37
  let c0_16 : Index := 0#32
  ![v38.toNat, 0]
def k0_off2 (k0_t1 : Fin k0_t1_loop.trips) : Fin 2 → Nat :=
  let c0_i32_6 : BitVec 32 := 0#32
  let c1_i32 : BitVec 32 := 1#32
  let arg15 : BitVec 32 := Scf.iv c0_i32_6 c1_i32 k0_t1
  let c128_i32 : BitVec 32 := 128#32
  let v37 : BitVec 32 := Scalar.muli arg15 c128_i32
  let v206 : Index := Scalar.indexCast v37
  let c0_74 : Index := 0#32
  ![v206.toNat, 0]
def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let c8_i32 : BitVec 32 := 8#32
  let v7 : BitVec 1 := Scalar.cmpi .slt arg1 c8_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c8_i32_4 : BitVec 32 := 8#32
  let v11 : BitVec 1 := Scalar.cmpi .sge arg1 c8_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8x2048x4096 : Shape := ⟨3, ![8, 2048, 4096]⟩
abbrev S4096 : Shape := ⟨1, ![4096]⟩
abbrev S4096x12288 : Shape := ⟨2, ![4096, 12288]⟩
abbrev S12288 : Shape := ⟨1, ![12288]⟩
abbrev S8x2048 : Shape := ⟨2, ![8, 2048]⟩
abbrev S64 : Shape := ⟨1, ![64]⟩
abbrev S_ : Shape := ⟨0, ![]⟩
abbrev S276 : Shape := ⟨1, ![276]⟩
abbrev S16384x4096 : Shape := ⟨2, ![16384, 4096]⟩
abbrev S1x4096 : Shape := ⟨2, ![1, 4096]⟩
abbrev S1x12288 : Shape := ⟨2, ![1, 12288]⟩
abbrev S16384x1 : Shape := ⟨2, ![16384, 1]⟩
abbrev S1x64 : Shape := ⟨2, ![1, 64]⟩
abbrev S1x276 : Shape := ⟨2, ![1, 276]⟩
abbrev S16384 : Shape := ⟨1, ![16384]⟩
abbrev S16384x276 : Shape := ⟨2, ![16384, 276]⟩
abbrev S16384x12288 : Shape := ⟨2, ![16384, 12288]⟩
abbrev S16384x32x128 : Shape := ⟨3, ![16384, 32, 128]⟩
abbrev S16384x64 : Shape := ⟨2, ![16384, 64]⟩
abbrev S16384x1x64 : Shape := ⟨3, ![16384, 1, 64]⟩
abbrev S16384x32x64 : Shape := ⟨3, ![16384, 32, 64]⟩

abbrev nBuf : Space → Nat
  | .hbm => 39
  | .vmem => 12
  | .smem => 0
  | _ => 0

abbrev bufTy : (tb : Table) → Fin (tcTables nBuf tb) → BufTy
  | .hbm, ⟨0, _⟩ => ⟨S8x2048x4096, .bf16⟩
  | .hbm, ⟨1, _⟩ => ⟨S4096, .f32⟩
  | .hbm, ⟨2, _⟩ => ⟨S4096x12288, .fp8e4m3⟩
  | .hbm, ⟨3, _⟩ => ⟨S12288, .f32⟩
  | .hbm, ⟨4, _⟩ => ⟨S8x2048, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S276, .f32⟩
  | .hbm, ⟨22, _⟩ => ⟨S_, .f32⟩
  | .hbm, ⟨23, _⟩ => ⟨S276, .f32⟩
  | .hbm, ⟨24, _⟩ => ⟨S276, .f32⟩
  | .hbm, ⟨25, _⟩ => ⟨S_, .f32⟩
  | .hbm, ⟨26, _⟩ => ⟨S276, .f32⟩
  | .hbm, ⟨27, _⟩ => ⟨S276, .f32⟩
  | .hbm, ⟨28, _⟩ => ⟨S16384x4096, .bf16⟩
  | .hbm, ⟨29, _⟩ => ⟨S1x4096, .f32⟩
  | .hbm, ⟨30, _⟩ => ⟨S1x12288, .f32⟩
  | .hbm, ⟨31, _⟩ => ⟨S16384x1, .i32⟩
  | .hbm, ⟨32, _⟩ => ⟨S1x64, .f32⟩
  | .hbm, ⟨33, _⟩ => ⟨S1x276, .f32⟩
  | .hbm, ⟨34, _⟩ => ⟨S16384x4096, .bf16⟩
  | .hbm, ⟨35, _⟩ => ⟨S16384x4096, .bf16⟩
  | .hbm, ⟨36, _⟩ => ⟨S16384x4096, .bf16⟩
  | .hbm, ⟨37, _⟩ => ⟨S16384x4096, .fp8e4m3⟩
  | .hbm, ⟨38, _⟩ => ⟨S16384x1, .f32⟩
  | .local _ .vmem, ⟨0, _⟩ => ⟨S16384x4096, .bf16⟩
  | .local _ .vmem, ⟨1, _⟩ => ⟨S1x4096, .f32⟩
  | .local _ .vmem, ⟨2, _⟩ => ⟨S4096x12288, .fp8e4m3⟩
  | .local _ .vmem, ⟨3, _⟩ => ⟨S1x12288, .f32⟩
  | .local _ .vmem, ⟨4, _⟩ => ⟨S16384x1, .i32⟩
  | .local _ .vmem, ⟨5, _⟩ => ⟨S1x64, .f32⟩
  | .local _ .vmem, ⟨6, _⟩ => ⟨S1x276, .f32⟩
  | .local _ .vmem, ⟨7, _⟩ => ⟨S16384x4096, .bf16⟩
  | .local _ .vmem, ⟨8, _⟩ => ⟨S16384x4096, .bf16⟩
  | .local _ .vmem, ⟨9, _⟩ => ⟨S16384x4096, .bf16⟩
  | .local _ .vmem, ⟨10, _⟩ => ⟨S16384x4096, .fp8e4m3⟩
  | .local _ .vmem, ⟨11, _⟩ => ⟨S16384x1, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16384x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x276 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Reference.Blocks.lean ====
/-
  The reference's run, read as values: each result array after the run is named, and every block of it is what the one
  grid point wrote back. Follows the layout of the generated value certificates; used by the value claim.
-/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x4096.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16384x4096.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16384x4096.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S16384x4096.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S16384x1.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v22_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v22_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v22_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v22_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v22_4) = (dats m 0 c).arrAt 11 cfg0.N :=
  (h c).1 11

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v22_0) = (dats m 0 c).arrAt 7 cfg0.N
      ∧ r.2.mem ((c : Thread nD τ).loc main_v22_1) = (dats m 0 c).arrAt 8 cfg0.N
      ∧ r.2.mem ((c : Thread nD τ).loc main_v22_2) = (dats m 0 c).arrAt 9 cfg0.N
      ∧ r.2.mem ((c : Thread nD τ).loc main_v22_3) = (dats m 0 c).arrAt 10 cfg0.N
      ∧ r.2.mem ((c : Thread nD τ).loc main_v22_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c⟩)
    (run_main m ρ)

end Cert.ReferenceIdeal.Value

end
-- ==== Proof.Region.Runs.lean ====
/- What the runs of the kernel's body share: the four branch conditions in closed form over the grid points, where each output window is
   idle or fresh, and the staging and scratch memrefs. The frame kit itself is `Gen/KernelIdeal/Frame.lean`. The four cases of a point
   `t = 12*i + j` are A: `j = 0`, B: `1 <= j <= 3`, C: `4 <= j <= 7`, D: `8 <= j`.
   The modules of this directory follow the layout of a generated class-R certificate; they differ from one in the
   windows a case leaves idle and yet reads, or that the pipeline writes back at an idle point (`leaves_kept`). -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The condition of the body's `scf.if` 0 (`k0_h1`), from the grid coordinates (the skeleton's scalar
    chain substituted). -/
abbrev cond0_0 (i : grid0.Coords) : Prop := k0_cond1 i = 1#1
/-- It holds at the points ≡ 0 (mod 12) — by arithmetic of the point. -/
theorem hcond0_0 : ∀ t : Fin cfg0.N, cond0_0 (grid0.coords t) ↔ t.val % 12 = 0 :=
  (fun t => by
    have ht : t.val < 192 := Nat.lt_of_lt_of_eq t.isLt N_0
    have e0 : (grid0.coords t 0).val = t.val / 12 % 16 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 3 — decided over the grid. -/
theorem hcond0_1 : ∀ t : Fin cfg0.N, cond0_1 (grid0.coords t) ↔ t.val % 12 ≤ 3 :=
  (by decide +kernel : ∀ t : Fin grid0.N, cond0_1 (grid0.coords t) ↔ t.val % 12 ≤ 3)

/-- The condition of the body's `scf.if` 2 (`k0_h3`), from the grid coordinates (the skeleton's scalar
    chain substituted). -/
abbrev cond0_2 (i : grid0.Coords) : Prop := k0_cond3 i = 1#1
/-- It holds at the points whose coordinates have 4 ≤ i1 and i1 ≤ 7 — decided over the grid. -/
theorem hcond0_2 : ∀ t : Fin cfg0.N, cond0_2 (grid0.coords t) ↔ (4 ≤ t.val % 12 ∧ t.val % 12 ≤ 7) :=
  (by decide +kernel : ∀ t : Fin grid0.N, cond0_2 (grid0.coords t) ↔ (4 ≤ t.val % 12 ∧ t.val % 12 ≤ 7))

/-- The condition of the body's `scf.if` 3 (`k0_h4`), from the grid coordinates (the skeleton's scalar
    chain substituted). -/
abbrev cond0_3 (i : grid0.Coords) : Prop := k0_cond4 i = 1#1
/-- It holds at the points whose coordinates have 8 ≤ i1 — decided over the grid. -/
theorem hcond0_3 : ∀ t : Fin cfg0.N, cond0_3 (grid0.coords t) ↔ 8 ≤ t.val % 12 :=
  (by decide +kernel : ∀ t : Fin grid0.N, cond0_3 (grid0.coords t) ↔ 8 ≤ t.val % 12)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x807807807807807807807807807807807807807807807807 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → ¬cond0_3 (grid0.coords t) → cfg0.idle 6 (grid0.coords t) = false :=
  fun t h0 h1 h2 h3 => (by decide +kernel : ∀ t : Fin cfg0.N, conds0_A (grid0.coords t) → cfg0.idle 6 (grid0.coords t) = false) t ⟨h0, h1, h2, h3⟩
/-- At the points of case B the printed configuration (`Cfg.idle`) calls output 6 live: the case stores into it. -/
theorem liveAt0_6_B : ∀ t : Fin cfg0.N, ¬cond0_0 (grid0.coords t) → cond0_1 (grid0.coords t) → ¬cond0_2 (grid0.coords t) → ¬cond0_3 (grid0.coords t) → cfg0.idle 6 (grid0.coords t) = false :=
  fun t h0 h1 h2 h3 => (by decide +kernel : ∀ t : Fin cfg0.N, conds0_B (grid0.coords t) → cfg0.idle 6 (grid0.coords t) = false) t ⟨h0, h1, h2, h3⟩
/-- At the points of case C the printed configuration (`Cfg.idle`) calls output 6 idle: the case stores nothing into it. -/
theorem idleAt0_6_C : ∀ t : Fin cfg0.N, ¬cond0_0 (grid0.coords t) → ¬cond0_1 (grid0.coords t) → cond0_2 (grid0.coords t) → ¬cond0_3 (grid0.coords t) → cfg0.idle 6 (grid0.coords t) = true :=
  fun t h0 h1 h2 h3 => (by decide +kernel : ∀ t : Fin cfg0.N, conds0_C (grid0.coords t) → cfg0.idle 6 (grid0.coords t) = true) t ⟨h0, h1, h2, h3⟩
/-- At the points of case C the pipeline does not write output 6's block back. -/
theorem noFlush0_6_C : ∀ t : Fin cfg0.N, ¬cond0_0 (grid0.coords t) → ¬cond0_1 (grid0.coords t) → cond0_2 (grid0.coords t) → ¬cond0_3 (grid0.coords t) → (cfg0.win 6).flush t = false :=
  fun t h0 h1 h2 h3 => (by decide +kernel : ∀ t : Fin cfg0.N, conds0_C (grid0.coords t) → (cfg0.win 6).flush t = false) t ⟨h0, h1, h2, h3⟩
/-- At the points of case D the printed configuration (`Cfg.idle`) calls output 6 idle: the case stores nothing into it. -/
theorem idleAt0_6_D : ∀ t : Fin cfg0.N, ¬cond0_0 (grid0.coords t) → ¬cond0_1 (grid0.coords t) → ¬cond0_2 (grid0.coords t) → cond0_3 (grid0.coords t) → cfg0.idle 6 (grid0.coords t) = true :=
  fun t h0 h1 h2 h3 => (by decide +kernel : ∀ t : Fin cfg0.N, conds0_D (grid0.coords t) → cfg0.idle 6 (grid0.coords t) = true) t ⟨h0, h1, h2, h3⟩
/-- At the points of case D, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_D : ∀ t : Fin cfg0.N, ¬cond0_0 (grid0.coords t) → ¬cond0_1 (grid0.coords t) → ¬cond0_2 (grid0.coords t) → cond0_3 (grid0.coords t) → cfg0.fresh 6 t.val = false :=
  fun t h0 h1 h2 h3 => (by intro t; rw [fresh0_6_eq t]; revert t; decide +kernel : ∀ t : Fin cfg0.N, conds0_D (grid0.coords t) → cfg0.fresh 6 t.val = false) t ⟨h0, h1, h2, h3⟩
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x87f87f87f87f87f87f87f87f87f87f87f87f87f87f87f87f : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 idle: the case stores nothing into it. -/
theorem idleAt0_7_A : ∀ t : Fin cfg0.N, cond0_0 (grid0.coords t) → cond0_1 (grid0.coords t) → ¬cond0_2 (grid0.coords t) → ¬cond0_3 (grid0.coords t) → cfg0.idle 7 (grid0.coords t) = true :=
  fun t h0 h1 h2 h3 => (by decide +kernel : ∀ t : Fin cfg0.N, conds0_A (grid0.coords t) → cfg0.idle 7 (grid0.coords t) = true) t ⟨h0, h1, h2, h3⟩
/-- At the points of case A the pipeline does not write output 7's block back. -/
theorem noFlush0_7_A : ∀ t : Fin cfg0.N, cond0_0 (grid0.coords t) → cond0_1 (grid0.coords t) → ¬cond0_2 (grid0.coords t) → ¬cond0_3 (grid0.coords t) → (cfg0.win 7).flush t = false :=
  fun t h0 h1 h2 h3 => (by decide +kernel : ∀ t : Fin cfg0.N, conds0_A (grid0.coords t) → (cfg0.win 7).flush t = false) t ⟨h0, h1, h2, h3⟩
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → ¬cond0_3 (grid0.coords t) → cfg0.idle 7 (grid0.coords t) = true :=
  fun t h0 h1 h2 h3 => (by decide +kernel : ∀ t : Fin cfg0.N, conds0_B (grid0.coords t) → cfg0.idle 7 (grid0.coords t) = true) t ⟨h0, h1, h2, h3⟩
/-- At the points of case B the pipeline does not write output 7's block back. -/
theorem noFlush0_7_B : ∀ t : Fin cfg0.N, ¬cond0_0 (grid0.coords t) → cond0_1 (grid0.coords t) → ¬cond0_2 (grid0.coords t) → ¬cond0_3 (grid0.coords t) → (cfg0.win 7).flush t = false :=
  fun t h0 h1 h2 h3 => (by decide +kernel : ∀ t : Fin cfg0.N, conds0_B (grid0.coords t) → (cfg0.win 7).flush t = false) t ⟨h0, h1, h2, h3⟩
/-- At the points of case C the printed configuration (`Cfg.idle`) calls output 7 live: the case stores into it. -/
theorem liveAt0_7_C : ∀ t : Fin cfg0.N, ¬cond0_0 (grid0.coords t) → ¬cond0_1 (grid0.coords t) → cond0_2 (grid0.coords t) → ¬cond0_3 (grid0.coords t) → cfg0.idle 7 (grid0.coords t) = false :=
  fun t h0 h1 h2 h3 => (by decide +kernel : ∀ t : Fin cfg0.N, conds0_C (grid0.coords t) → cfg0.idle 7 (grid0.coords t) = false) t ⟨h0, h1, h2, h3⟩
/-- At the points of case D the printed configuration (`Cfg.idle`) calls output 7 idle: the case stores nothing into it. -/
theorem idleAt0_7_D : ∀ t : Fin cfg0.N, ¬cond0_0 (grid0.coords t) → ¬cond0_1 (grid0.coords t) → ¬cond0_2 (grid0.coords t) → cond0_3 (grid0.coords t) → cfg0.idle 7 (grid0.coords t) = true :=
  fun t h0 h1 h2 h3 => (by decide +kernel : ∀ t : Fin cfg0.N, conds0_D (grid0.coords t) → cfg0.idle 7 (grid0.coords t) = true) t ⟨h0, h1, h2, h3⟩
/-- At the points of case D, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_D : ∀ t : Fin cfg0.N, ¬cond0_0 (grid0.coords t) → ¬cond0_1 (grid0.coords t) → ¬cond0_2 (grid0.coords t) → cond0_3 (grid0.coords t) → cfg0.fresh 7 t.val = false :=
  fun t h0 h1 h2 h3 => (by intro t; rw [fresh0_7_eq t]; revert t; decide +kernel : ∀ t : Fin cfg0.N, conds0_D (grid0.coords t) → cfg0.fresh 7 t.val = false) t ⟨h0, h1, h2, h3⟩
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → ¬cond0_3 (grid0.coords t) → cfg0.idle 8 (grid0.coords t) = true :=
  fun t h0 h1 h2 h3 => (by decide +kernel : ∀ t : Fin cfg0.N, conds0_A (grid0.coords t) → cfg0.idle 8 (grid0.coords t) = true) t ⟨h0, h1, h2, h3⟩
/-- At the points of case A the pipeline does not write output 8's block back. -/
theorem noFlush0_8_A : ∀ t : Fin cfg0.N, cond0_0 (grid0.coords t) → cond0_1 (grid0.coords t) → ¬cond0_2 (grid0.coords t) → ¬cond0_3 (grid0.coords t) → (cfg0.win 8).flush t = false :=
  fun t h0 h1 h2 h3 => (by decide +kernel : ∀ t : Fin cfg0.N, conds0_A (grid0.coords t) → (cfg0.win 8).flush t = false) t ⟨h0, h1, h2, h3⟩
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → ¬cond0_3 (grid0.coords t) → cfg0.idle 8 (grid0.coords t) = true :=
  fun t h0 h1 h2 h3 => (by decide +kernel : ∀ t : Fin cfg0.N, conds0_B (grid0.coords t) → cfg0.idle 8 (grid0.coords t) = true) t ⟨h0, h1, h2, h3⟩
/-- At the points of case B the pipeline does not write output 8's block back. -/
theorem noFlush0_8_B : ∀ t : Fin cfg0.N, ¬cond0_0 (grid0.coords t) → cond0_1 (grid0.coords t) → ¬cond0_2 (grid0.coords t) → ¬cond0_3 (grid0.coords t) → (cfg0.win 8).flush t = false :=
  fun t h0 h1 h2 h3 => (by decide +kernel : ∀ t : Fin cfg0.N, conds0_B (grid0.coords t) → (cfg0.win 8).flush t = false) t ⟨h0, h1, h2, h3⟩
/-- At the points of case C the printed configuration (`Cfg.idle`) calls output 8 idle: the case stores nothing into it. -/
theorem idleAt0_8_C : ∀ t : Fin cfg0.N, ¬cond0_0 (grid0.coords t) → ¬cond0_1 (grid0.coords t) → cond0_2 (grid0.coords t) → ¬cond0_3 (grid0.coords t) → cfg0.idle 8 (grid0.coords t) = true :=
  fun t h0 h1 h2 h3 => (by decide +kernel : ∀ t : Fin cfg0.N, conds0_C (grid0.coords t) → cfg0.idle 8 (grid0.coords t) = true) t ⟨h0, h1, h2, h3⟩
/-- At the points of case C the pipeline does not write output 8's block back. -/
theorem noFlush0_8_C : ∀ t : Fin cfg0.N, ¬cond0_0 (grid0.coords t) → ¬cond0_1 (grid0.coords t) → cond0_2 (grid0.coords t) → ¬cond0_3 (grid0.coords t) → (cfg0.win 8).flush t = false :=
  fun t h0 h1 h2 h3 => (by decide +kernel : ∀ t : Fin cfg0.N, conds0_C (grid0.coords t) → (cfg0.win 8).flush t = false) t ⟨h0, h1, h2, h3⟩
/-- At the points of case D the printed configuration (`Cfg.idle`) calls output 8 live: the case stores into it. -/
theorem liveAt0_8_D : ∀ t : Fin cfg0.N, ¬cond0_0 (grid0.coords t) → ¬cond0_1 (grid0.coords t) → ¬cond0_2 (grid0.coords t) → cond0_3 (grid0.coords t) → cfg0.idle 8 (grid0.coords t) = false :=
  fun t h0 h1 h2 h3 => (by decide +kernel : ∀ t : Fin cfg0.N, conds0_D (grid0.coords t) → cfg0.idle 8 (grid0.coords t) = false) t ⟨h0, h1, h2, h3⟩
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x800800800800800800800800800800800800800800800800 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → cond0_1 (grid0.coords t) → ¬cond0_2 (grid0.coords t) → ¬cond0_3 (grid0.coords t) → cfg0.idle 9 (grid0.coords t) = false :=
  fun t h0 h1 h2 h3 => (by decide +kernel : ∀ t : Fin cfg0.N, conds0_A (grid0.coords t) → cfg0.idle 9 (grid0.coords t) = false) t ⟨h0, h1, h2, h3⟩
/-- At the points of case B the printed configuration (`Cfg.idle`) calls output 9 idle: the case stores nothing into it. -/
theorem idleAt0_9_B : ∀ t : Fin cfg0.N, ¬cond0_0 (grid0.coords t) → cond0_1 (grid0.coords t) → ¬cond0_2 (grid0.coords t) → ¬cond0_3 (grid0.coords t) → cfg0.idle 9 (grid0.coords t) = true :=
  fun t h0 h1 h2 h3 => (by decide +kernel : ∀ t : Fin cfg0.N, conds0_B (grid0.coords t) → cfg0.idle 9 (grid0.coords t) = true) t ⟨h0, h1, h2, h3⟩
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cond0_1 (grid0.coords t) → ¬cond0_2 (grid0.coords t) → ¬cond0_3 (grid0.coords t) → cfg0.fresh 9 t.val = false :=
  fun t h0 h1 h2 h3 => (by intro t; rw [fresh0_9_eq t]; revert t; decide +kernel : ∀ t : Fin cfg0.N, conds0_B (grid0.coords t) → cfg0.fresh 9 t.val = false) t ⟨h0, h1, h2, h3⟩
/-- At the points of case C the printed configuration (`Cfg.idle`) calls output 9 idle: the case stores nothing into it. -/
theorem idleAt0_9_C : ∀ t : Fin cfg0.N, ¬cond0_0 (grid0.coords t) → ¬cond0_1 (grid0.coords t) → cond0_2 (grid0.coords t) → ¬cond0_3 (grid0.coords t) → cfg0.idle 9 (grid0.coords t) = true :=
  fun t h0 h1 h2 h3 => (by decide +kernel : ∀ t : Fin cfg0.N, conds0_C (grid0.coords t) → cfg0.idle 9 (grid0.coords t) = true) t ⟨h0, h1, h2, h3⟩
/-- At the points of case C, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_C : ∀ t : Fin cfg0.N, ¬cond0_0 (grid0.coords t) → ¬cond0_1 (grid0.coords t) → cond0_2 (grid0.coords t) → ¬cond0_3 (grid0.coords t) → cfg0.fresh 9 t.val = false :=
  fun t h0 h1 h2 h3 => (by intro t; rw [fresh0_9_eq t]; revert t; decide +kernel : ∀ t : Fin cfg0.N, conds0_C (grid0.coords t) → cfg0.fresh 9 t.val = false) t ⟨h0, h1, h2, h3⟩
/-- At the points of case D the printed configuration (`Cfg.idle`) calls output 9 idle: the case stores nothing into it. -/
theorem idleAt0_9_D : ∀ t : Fin cfg0.N, ¬cond0_0 (grid0.coords t) → ¬cond0_1 (grid0.coords t) → ¬cond0_2 (grid0.coords t) → cond0_3 (grid0.coords t) → cfg0.idle 9 (grid0.coords t) = true :=
  fun t h0 h1 h2 h3 => (by decide +kernel : ∀ t : Fin cfg0.N, conds0_D (grid0.coords t) → cfg0.idle 9 (grid0.coords t) = true) t ⟨h0, h1, h2, h3⟩
/-- At the points of case D, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_D : ∀ t : Fin cfg0.N, ¬cond0_0 (grid0.coords t) → ¬cond0_1 (grid0.coords t) → ¬cond0_2 (grid0.coords t) → cond0_3 (grid0.coords t) → cfg0.fresh 9 t.val = false :=
  fun t h0 h1 h2 h3 => (by intro t; rw [fresh0_9_eq t]; revert t; decide +kernel : ∀ t : Fin cfg0.N, conds0_D (grid0.coords t) → cfg0.fresh 9 t.val = false) t ⟨h0, h1, h2, h3⟩
/-- Whether output 10's buffer is FRESH at each position `1 ‥ N` — holds nothing the body stored since the region's entry or the
    last write-back (written back at the point before, or idle there and fresh before it) —, as a bitmask the classifier
    computed, bit `n` for position `n + 1`; position 0 is fresh. `freshTab0_10_step` checks it against the configuration's own
    step point by point and Lib/Pipeline/TableIdle.lean `Cfg.fresh_tab` makes it `Cfg.fresh` (`fresh0_10_eq`). -/
def freshTab0_10 : ℕ → Bool
  | 0 => true
  | n + 1 => (0x800800800800800800800800800800800800800800800800 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live: the case stores into it. -/
theorem liveAt0_10_A : ∀ t : Fin cfg0.N, cond0_0 (grid0.coords t) → cond0_1 (grid0.coords t) → ¬cond0_2 (grid0.coords t) → ¬cond0_3 (grid0.coords t) → cfg0.idle 10 (grid0.coords t) = false :=
  fun t h0 h1 h2 h3 => (by decide +kernel : ∀ t : Fin cfg0.N, conds0_A (grid0.coords t) → cfg0.idle 10 (grid0.coords t) = false) t ⟨h0, h1, h2, h3⟩
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_B (grid0.coords t) → cfg0.idle 10 (grid0.coords t) = true) t ⟨h0, h1, h2, h3⟩
/-- At the points of case B, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_B : ∀ t : Fin cfg0.N, ¬cond0_0 (grid0.coords t) → cond0_1 (grid0.coords t) → ¬cond0_2 (grid0.coords t) → ¬cond0_3 (grid0.coords t) → cfg0.fresh 10 t.val = false :=
  fun t h0 h1 h2 h3 => (by intro t; rw [fresh0_10_eq t]; revert t; decide +kernel : ∀ t : Fin cfg0.N, conds0_B (grid0.coords t) → cfg0.fresh 10 t.val = false) t ⟨h0, h1, h2, h3⟩
/-- At the points of case C the printed configuration (`Cfg.idle`) calls output 10 idle: the case stores nothing into it. -/
theorem idleAt0_10_C : ∀ t : Fin cfg0.N, ¬cond0_0 (grid0.coords t) → ¬cond0_1 (grid0.coords t) → cond0_2 (grid0.coords t) → ¬cond0_3 (grid0.coords t) → cfg0.idle 10 (grid0.coords t) = true :=
  fun t h0 h1 h2 h3 => (by decide +kernel : ∀ t : Fin cfg0.N, conds0_C (grid0.coords t) → cfg0.idle 10 (grid0.coords t) = true) t ⟨h0, h1, h2, h3⟩
/-- At the points of case C, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_C : ∀ t : Fin cfg0.N, ¬cond0_0 (grid0.coords t) → ¬cond0_1 (grid0.coords t) → cond0_2 (grid0.coords t) → ¬cond0_3 (grid0.coords t) → cfg0.fresh 10 t.val = false :=
  fun t h0 h1 h2 h3 => (by intro t; rw [fresh0_10_eq t]; revert t; decide +kernel : ∀ t : Fin cfg0.N, conds0_C (grid0.coords t) → cfg0.fresh 10 t.val = false) t ⟨h0, h1, h2, h3⟩
/-- At the points of case D the printed configuration (`Cfg.idle`) calls output 10 idle: the case stores nothing into it. -/
theorem idleAt0_10_D : ∀ t : Fin cfg0.N, ¬cond0_0 (grid0.coords t) → ¬cond0_1 (grid0.coords t) → ¬cond0_2 (grid0.coords t) → cond0_3 (grid0.coords t) → cfg0.idle 10 (grid0.coords t) = true :=
  fun t h0 h1 h2 h3 => (by decide +kernel : ∀ t : Fin cfg0.N, conds0_D (grid0.coords t) → cfg0.idle 10 (grid0.coords t) = true) t ⟨h0, h1, h2, h3⟩
/-- At the points of case D, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_D : ∀ t : Fin cfg0.N, ¬cond0_0 (grid0.coords t) → ¬cond0_1 (grid0.coords t) → ¬cond0_2 (grid0.coords t) → cond0_3 (grid0.coords t) → cfg0.fresh 10 t.val = false :=
  fun t h0 h1 h2 h3 => (by intro t; rw [fresh0_10_eq t]; revert t; decide +kernel : ∀ t : Fin cfg0.N, conds0_D (grid0.coords t) → cfg0.fresh 10 t.val = false) t ⟨h0, h1, h2, h3⟩

/-! ## The kernel body on any staging memrefs: a subtype the run finds -/

/-- One staging buffer of output window 6, through which its contents are stated (`View.read_writes_of_cover`: the
    choice does not matter). -/
abbrev VO0_6 : View sig .tc .vmem S1024x1024 .bf16 := (Memref.whole cc0_stg6_0 : Memref sig .tc .vmem S1024x1024 .bf16).view
/-- One staging buffer of output window 7, through which its contents are stated (`View.read_writes_of_cover`: the
    choice does not matter). -/
abbrev VO0_7 : View sig .tc .vmem S1024x1024 .bf16 := (Memref.whole cc0_stg7_0 : Memref sig .tc .vmem S1024x1024 .bf16).view
/-- One staging buffer of output window 8, through which its contents are stated (`View.read_writes_of_cover`: the
    choice does not matter). -/
abbrev VO0_8 : View sig .tc .vmem S1024x1024 .bf16 := (Memref.whole cc0_stg8_0 : Memref sig .tc .vmem S1024x1024 .bf16).view
/-- One staging buffer of output window 9, through which its contents are stated (`View.read_writes_of_cover`: the
    choice does not matter). -/
abbrev VO0_9 : View sig .tc .vmem S1024x4096 .fp8e4m3 := (Memref.whole cc0_stg9_0 : Memref sig .tc .vmem S1024x4096 .fp8e4m3).view
/-- One staging buffer of output window 10, through which its contents are stated (`View.read_writes_of_cover`: the
    choice does not matter). -/
abbrev VO0_10 : View sig .tc .vmem S1024x1 .f32 := (Memref.whole cc0_stg10_0 : Memref sig .tc .vmem S1024x1 .f32).view
/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1
/-- The scratch `arg13` the kernel carries between points, as a view: what it holds is stated through it. -/
abbrev VS0_0 : View sig .tc .vmem S1024x128 .f32 := scM0_0.view
/-- The scratch `arg14` the kernel carries between points, as a view: what it holds is stated through it. -/
abbrev VS0_1 : View sig .tc .vmem S1024x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Region.RunA.lean ====
/- The run of the kernel's whole body in case A: the pieces each buffer ends with, found by executing the body's skeleton, with the
   triple that says so. -/
module

public import proofs.«01_k».proof.Proof.Region.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken, `scf.if` 1 taken, `scf.if` 2 not taken, `scf.if` 3 not taken: points 0, 12, … 180: 16 of 192), WITH the
    proof that on whole staging memrefs — the inputs' at their contents, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) :
    Σ' (L6 : List (View.Piece (Elt F) S1024x1024 .bf16)), Σ' (L7 : List (View.Piece (Elt F) S1024x1024 .bf16)), Σ' (L8 : List (View.Piece (Elt F) S1024x1024 .bf16)), Σ' (L9 : List (View.Piece (Elt F) S1024x4096 .fp8e4m3)), Σ' (L10 : List (View.Piece (Elt F) S1024x1 .f32)), Σ' (LS0 : List (View.Piece (Elt F) S1024x128 .f32)), { LS1 : List (View.Piece (Elt F) S1024x128 .f32) //
      ∀ (xi7 : Vec F S1024x1024 .bf16) (xi8 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨?_, [], [], ?_, ?_, ?_, ?_, fun xi7 xi8 E K => ?run⟩
  case run =>
    simp only [cc0__body_eq_skeleton]; unfold cc0__body_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    have hrd0 : ∀ (𝒱 : Variants) (c : Dev nD) (bd : Option 𝒱.V) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (k0_h1 : k0_cond1 i = 1#1) (X_arg2 : BufTy.Contents (Elt F) arg2.view.ty) (X_arg3 : BufTy.Contents (Elt F) arg3.view.ty) (hrdF : BufTy.Contents (Elt F) arg11.view.ty) (hrdB : LoadRect S1024x4096), arg11.view.readAt (Elt F) hrdB (arg11.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 (Scf.trips k0_t1_loop.lb k0_t1_loop.ub k0_t1_loop.st)).1) = arg11.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 (Scf.trips k0_t1_loop.lb k0_t1_loop.ub k0_t1_loop.st)).1 hrdB := fun 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 (Scf.trips k0_t1_loop.lb k0_t1_loop.ub k0_t1_loop.st)).1 S128x4096.size (by sl_kernel_rfl) (hrdB.idx hrdJ))
    have hrd1 : ∀ (𝒱 : Variants) (c : Dev nD) (bd : Option 𝒱.V) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (k0_h1 : k0_cond1 i = 1#1) (X_arg2 : BufTy.Contents (Elt F) arg2.view.ty) (X_arg3 : BufTy.Contents (Elt F) arg3.view.ty) (hrdF : BufTy.Contents (Elt F) arg12.view.ty) (hrdB : LoadRect S1024x1), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 (Scf.trips k0_t1_loop.lb k0_t1_loop.ub k0_t1_loop.st)).2) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 (Scf.trips k0_t1_loop.lb k0_t1_loop.ub k0_t1_loop.st)).2 hrdB := fun 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg3 (Scf.trips k0_t1_loop.lb k0_t1_loop.ub k0_t1_loop.st)).2 S128x1.size (by sl_kernel_rfl) (hrdB.idx hrdJ))
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [HS0]; · iexists _; iexact HS0
    iexists _; iexact HS1

end Cert.KernelIdeal.Gen

end
-- ==== Proof.Region.RunB.lean ====
/- The run of the kernel's whole body in case B: the pieces each buffer ends with, found by executing the body's skeleton, with the
   triple that says so. -/
module

public import proofs.«01_k».proof.Proof.Region.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, … 183: 48 of 192), WITH the
    proof that on whole staging memrefs — the inputs' at their contents, the outputs it reads before covering (9, 10) at their running contents `xo·`, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) :
    Σ' (L6 : List (View.Piece (Elt F) S1024x1024 .bf16)), Σ' (L7 : List (View.Piece (Elt F) S1024x1024 .bf16)), Σ' (L8 : List (View.Piece (Elt F) S1024x1024 .bf16)), Σ' (L9 : List (View.Piece (Elt F) S1024x4096 .fp8e4m3)), Σ' (L10 : List (View.Piece (Elt F) S1024x1 .f32)), Σ' (LS0 : List (View.Piece (Elt F) S1024x128 .f32)), { LS1 : List (View.Piece (Elt F) S1024x128 .f32) //
      ∀ (xi7 : Vec F S1024x1024 .bf16) (xi8 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xo9 ∗ owns (c : Thread nD τ) arg12 fullShare xo10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xo9 ∗ owns (c : Thread nD τ) arg12 fullShare xo10 ∗ owns (c : Thread nD τ) arg13 fullShare xs0 ∗ owns (c : Thread nD τ) arg14 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨?_, [], [], [], [], [], [], fun xi7 xi8 E K => ?run⟩
  case run =>
    simp only [cc0__body_eq_skeleton]; unfold cc0__body_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hf10; obtain rfl := harg13.eq_unread hfs0; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]
    · iexists _; isplitr; · ipureintro; exact harg13.read_unread _
      iexact HS0
    iexists _; isplitr; · ipureintro; exact harg14.read_unread _
    iexact HS1

end Cert.KernelIdeal.Gen

end
-- ==== Proof.Region.RunC.lean ====
/- The run of the kernel's whole body in case C: the pieces each buffer ends with, found by executing the body's skeleton, with the
   triple that says so. -/
module

public import proofs.«01_k».proof.Proof.Region.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 4, 5, … 187: 64 of 192), WITH the
    proof that on whole staging memrefs — the inputs' at their contents, the outputs it reads before covering (9, 10) at their running contents `xo·`, the outputs it leaves idle (6, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) :
    Σ' (L6 : List (View.Piece (Elt F) S1024x1024 .bf16)), Σ' (L7 : List (View.Piece (Elt F) S1024x1024 .bf16)), Σ' (L8 : List (View.Piece (Elt F) S1024x1024 .bf16)), Σ' (L9 : List (View.Piece (Elt F) S1024x4096 .fp8e4m3)), Σ' (L10 : List (View.Piece (Elt F) S1024x1 .f32)), Σ' (LS0 : List (View.Piece (Elt F) S1024x128 .f32)), { LS1 : List (View.Piece (Elt F) S1024x128 .f32) //
      ∀ (xi6 : Vec F S1024x1024 .bf16) (xi8 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xi8 ∗ owns (c : Thread nD τ) arg11 fullShare xo9 ∗ owns (c : Thread nD τ) arg12 fullShare xo10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ owns (c : Thread nD τ) arg10 fullShare xi8 ∗ owns (c : Thread nD τ) arg11 fullShare xo9 ∗ owns (c : Thread nD τ) arg12 fullShare xo10 ∗ owns (c : Thread nD τ) arg13 fullShare xs0 ∗ owns (c : Thread nD τ) arg14 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨[], ?_, [], [], [], [], [], fun xi6 xi8 E K => ?run⟩
  case run =>
    simp only [cc0__body_eq_skeleton]; unfold cc0__body_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg13.eq_unread hfs0; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]
    · iexists _; isplitr; · ipureintro; exact harg13.read_unread _
      iexact HS0
    iexists _; isplitr; · ipureintro; exact harg14.read_unread _
    iexact HS1

end Cert.KernelIdeal.Gen

end
-- ==== Proof.Region.RunD.lean ====
/- The run of the kernel's whole body in case D: the pieces each buffer ends with, found by executing the body's skeleton, with the
   triple that says so. -/
module

public import proofs.«01_k».proof.Proof.Region.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 8, 9, … 191: 64 of 192), WITH the
    proof that on whole staging memrefs — the inputs' at their contents, the outputs it reads before covering (6, 7, 9, 10) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) :
    Σ' (L6 : List (View.Piece (Elt F) S1024x1024 .bf16)), Σ' (L7 : List (View.Piece (Elt F) S1024x1024 .bf16)), Σ' (L8 : List (View.Piece (Elt F) S1024x1024 .bf16)), Σ' (L9 : List (View.Piece (Elt F) S1024x4096 .fp8e4m3)), Σ' (L10 : List (View.Piece (Elt F) S1024x1 .f32)), Σ' (LS0 : List (View.Piece (Elt F) S1024x128 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ (∃ d, owns (c : Thread nD τ) arg10 fullShare d) ∗ owns (c : Thread nD τ) arg11 fullShare xo9 ∗ owns (c : Thread nD τ) arg12 fullShare xo10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7 ∗ (∃ f, arg10.view.loc (c : Thread nD τ) ↦[arg10.view.set]{fullShare} arg10.view.writes (Elt F) f L8) ∗ owns (c : Thread nD τ) arg11 fullShare xo9 ∗ owns (c : Thread nD τ) arg12 fullShare xo10 ∗ owns (c : Thread nD τ) arg13 fullShare xs0 ∗ owns (c : Thread nD τ) arg14 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, [], [], [], [], fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hfs0; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]
    · iexists _; isplitr; · ipureintro; exact harg13.read_unread _
      iexact HS0
    iexists _; isplitr; · ipureintro; exact harg14.read_unread _
    iexact HS1

end Cert.KernelIdeal.Gen

end
-- ==== Proof.Region.Outs.lean ====
/- What each case of the body leaves in each output's staging buffer and in the two carried scratch buffers, and the recursion over the
   grid points (`outsAt0`) that says what every buffer holds after each point. -/
module

public import proofs.«01_k».proof.Proof.Region.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (8 stores of `S1024x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1 S1024x128.size (by sl_kernel_rfl) y

/-- What case A leaves in output 6's staging buffer: its pieces read back over junk. -/
def out0_A_6 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) : Vec F S1024x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1)

/-- Case A stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out0_A_7 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo7 : Vec F S1024x1024 .bf16) : Vec F S1024x1024 .bf16 := xo7

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) : Vec F S1024x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1)

/-- Case A's pieces for output 9 tile its block (8 stores of `S128x4096`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (y : S1024x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1 S128x4096.size (by sl_kernel_rfl) y

/-- What case A leaves in output 9's staging buffer: its pieces read back over junk. -/
def out0_A_9 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) : Vec F S1024x4096 .fp8e4m3 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1)

/-- Case A's pieces for output 10 tile its block (8 stores of `S128x1`, checked by the kernel's evaluation: Lib/Ring.lean `Piece.tiledL`, linear in the pieces, through a loop's `@[irreducible]` trip theorem too), so they cover it. -/
theorem cover0_A_10 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1 S128x1.size (by sl_kernel_rfl) y

/-- What case A leaves in output 10's staging buffer: its pieces read back over junk. -/
def out0_A_10 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) : Vec F S1024x1 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1)

/-- Case A's pieces for scratch `arg13`, which the kernel carries between points, cover it: 1 piece of `S1024x128` tiling it (Lib/Ring.lean `Piece.tiledL`). -/
theorem scover0_A_0 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.1 S1024x128.size (by sl_kernel_rfl) y

/-- What case A leaves in scratch `arg13`: its pieces read back over junk. -/
def sout0_A_0 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.1)

/-- Case A's pieces for scratch `arg14`, which the kernel carries between points, cover it: 1 piece of `S1024x128` tiling it (Lib/Ring.lean `Piece.tiledL`). -/
theorem scover0_A_1 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.1 S1024x128.size (by sl_kernel_rfl) y

/-- What case A leaves in scratch `arg14`: its pieces read back over junk. -/
def sout0_A_1 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.1)

/-- Case B's pieces for output 6 tile its block (8 stores of `S1024x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1).1 S1024x128.size (by sl_kernel_rfl) y

/-- What case B leaves in output 6's staging buffer: its pieces read back over junk. -/
def out0_B_6 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1).1)

/-- Case B stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_7 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) (xo7 : Vec F S1024x1024 .bf16) : Vec F S1024x1024 .bf16 := xo7

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1).2.2.1)

/-- Case B stores nothing into output 9, a live window: its staging buffer holds what the point before left. -/
def out0_B_9 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x4096 .fp8e4m3 := xo9

/-- Case B stores nothing into output 10, a live window: its staging buffer holds what the point before left. -/
def out0_B_10 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x1 .f32 := xo10

/-- Case B stores nothing into scratch `arg13`: it holds what the point before left. -/
def sout0_B_0 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x128 .f32 := xs0

/-- Case B stores nothing into scratch `arg14`: it holds what the point before left. -/
def sout0_B_1 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : cond0_1 i) (hc2 : ¬cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x128 .f32 := xs1

/-- Case C stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_C_6 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) (xo6 : Vec F S1024x1024 .bf16) : Vec F S1024x1024 .bf16 := xo6

/-- Case C's pieces for output 7 tile its block (8 stores of `S1024x128`, checked by the kernel's evaluation: Lib/Ring.lean `Piece.tiledL`, linear in the pieces, through a loop's `@[irreducible]` trip theorem too), so they cover it. -/
theorem cover0_C_7 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1).2.1 S1024x128.size (by sl_kernel_rfl) y

/-- What case C leaves in output 7's staging buffer: its pieces read back over junk. -/
def out0_C_7 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x1024 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1).2.1)

/-- Case C stores nothing into output 8 (the window is idle at its points and not written back there):
    no pieces — a placeholder (junk read back) that nothing consults, since at these points the window is neither
    written back nor read at the next point (Lib/Pipeline.lean "Idle points"). -/
def out0_C_8 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1).2.2.1)

/-- Case C stores nothing into output 9, a live window: its staging buffer holds what the point before left. -/
def out0_C_9 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x4096 .fp8e4m3 := xo9

/-- Case C stores nothing into output 10, a live window: its staging buffer holds what the point before left. -/
def out0_C_10 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x1 .f32 := xo10

/-- Case C stores nothing into scratch `arg13`: it holds what the point before left. -/
def sout0_C_0 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x128 .f32 := xs0

/-- Case C stores nothing into scratch `arg14`: it holds what the point before left. -/
def sout0_C_1 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : cond0_2 i) (hc3 : ¬cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo9 : Vec F S1024x4096 .fp8e4m3) (xo10 : Vec F S1024x1 .f32) (xs0 : Vec F S1024x128 .f32) (xs1 : Vec F S1024x128 .f32) : Vec F S1024x128 .f32 := xs1

/-- Case D stores nothing into output 6, a live window: its staging buffer holds what the point before left. -/
def out0_D_6 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) : Vec F S1024x1024 .bf16 := xo6

/-- Case D stores nothing into output 7, a live window: its staging buffer holds what the point before left. -/
def out0_D_7 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) : Vec F S1024x1024 .bf16 := xo7

/-- Case D's pieces for output 8 tile its block (1 store of `S1024x1024`, checked by the kernel's evaluation: Lib/Ring.lean `Piece.tiledL`, linear in the pieces, through a loop's `@[irreducible]` trip theorem too), so they cover it. -/
theorem cover0_D_8 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) (y : S1024x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6 xo7 xo9 xo10 xs0 xs1).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6 xo7 xo9 xo10 xs0 xs1).2.2.1 S1024x1024.size (by sl_kernel_rfl) y

/-- What case D leaves in output 8's staging buffer: its pieces read back over junk. -/
def out0_D_8 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) : Vec F S1024x1024 .bf16 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6 xo7 xo9 xo10 xs0 xs1).2.2.1)

/-- Case D stores nothing into output 9, a live window: its staging buffer holds what the point before left. -/
def out0_D_9 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) : Vec F S1024x4096 .fp8e4m3 := xo9

/-- Case D stores nothing into output 10, a live window: its staging buffer holds what the point before left. -/
def out0_D_10 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) : Vec F S1024x1 .f32 := xo10

/-- Case D stores nothing into scratch `arg13`: it holds what the point before left. -/
def sout0_D_0 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) : Vec F S1024x128 .f32 := xs0

/-- Case D stores nothing into scratch `arg14`: it holds what the point before left. -/
def sout0_D_1 (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S1024x128 .f32) (harg13 : arg13.IsWhole) (arg14 : Memref sig .tc .vmem S1024x128 .f32) (harg14 : arg14.IsWhole) (hc0 : ¬cond0_0 i) (hc1 : ¬cond0_1 i) (hc2 : ¬cond0_2 i) (hc3 : cond0_3 i)
    (x0 : Vec F S1024x4096 .bf16) (x1 : Vec F S1x4096 .f32) (x2 : Vec F S4096x1024 .fp8e4m3) (x3 : Vec F S1x1024 .f32) (x4 : Vec F S1024x1 .i32) (x5 : Vec F S1x128 .f32) (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) : Vec F S1024x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x1024 .bf16 × Vec F S1024x1024 .bf16 × Vec F S1024x1024 .bf16 × Vec F S1024x4096 .fp8e4m3 × Vec F S1024x1 .f32 × Vec F S1024x128 .f32 × Vec F S1024x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((VO0_6.read (Elt F) VO0_6.junk, VO0_7.read (Elt F) VO0_7.junk, VO0_8.read (Elt F) VO0_8.junk, VO0_9.read (Elt F) VO0_9.junk, VO0_10.read (Elt F) VO0_10.junk, VS0_0.read (Elt F) VS0_0.junk, VS0_1.read (Elt F) VS0_1.junk) : Vec F S1024x1024 .bf16 × Vec F S1024x1024 .bf16 × Vec F S1024x1024 .bf16 × Vec F S1024x4096 .fp8e4m3 × Vec F S1024x1 .f32 × Vec F S1024x128 .f32 × Vec F S1024x128 .f32).2.1, out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 12 = 0 then
      if h1 : (n + 1) % 12 ≤ 3 then
        if h2 : (4 ≤ (n + 1) % 12 ∧ (n + 1) % 12 ≤ 7) then
          False.elim (by have hN : n + 1 < 192 := lt_of_lt_of_eq hn (show cfg0.N = 192 from N_0); omega)
        else
          if h3 : 8 ≤ (n + 1) % 12 then
            False.elim (by have hN : n + 1 < 192 := lt_of_lt_of_eq hn (show cfg0.N = 192 from N_0); omega)
          else
            (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1, out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 192 := lt_of_lt_of_eq hn (show cfg0.N = 192 from N_0); omega)
    else
      if h1 : (n + 1) % 12 ≤ 3 then
        if h2 : (4 ≤ (n + 1) % 12 ∧ (n + 1) % 12 ≤ 7) then
          False.elim (by have hN : n + 1 < 192 := lt_of_lt_of_eq hn (show cfg0.N = 192 from N_0); omega)
        else
          if h3 : 8 ≤ (n + 1) % 12 then
            False.elim (by have hN : n + 1 < 192 := lt_of_lt_of_eq hn (show cfg0.N = 192 from N_0); omega)
          else
            (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (outsAt0 c n (Nat.lt_of_succ_lt hn)).2.1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
      else
        if h2 : (4 ≤ (n + 1) % 12 ∧ (n + 1) % 12 ≤ 7) then
          if h3 : 8 ≤ (n + 1) % 12 then
            False.elim (by have hN : n + 1 < 192 := lt_of_lt_of_eq hn (show cfg0.N = 192 from N_0); omega)
          else
            (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2 (outsAt0 c n (Nat.lt_of_succ_lt hn)).1, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
        else
          if h3 : 8 ≤ (n + 1) % 12 then
            (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
          else
            False.elim (by have hN : n + 1 < 192 := lt_of_lt_of_eq hn (show cfg0.N = 192 from N_0); omega)

/-- `outsAt0` at a point of case A: that case's contents, over what the point before left. -/
theorem outsAt0_A (c : Dev nD) (t : Fin cfg0.N) (h0 : t.val % 12 = 0) (h1 : t.val % 12 ≤ 3) (h2 : ¬(4 ≤ t.val % 12 ∧ t.val % 12 ≤ 7)) (h3 : ¬8 ≤ t.val % 12) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1, out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 12 = 0) (h1 : t.val % 12 ≤ 3) (h2 : ¬(4 ≤ t.val % 12 ∧ t.val % 12 ≤ 7)) (h3 : ¬8 ≤ t.val % 12) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).2.1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 12 = 0) (h1 : ¬t.val % 12 ≤ 3) (h2 : (4 ≤ t.val % 12 ∧ t.val % 12 ≤ 7)) (h3 : ¬8 ≤ t.val % 12) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).1, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

end Cert.KernelIdeal.Gen

end
-- ==== Proof.Region.Frame.lean ====
/- The proof data of the kernel's pipeline, the body obligation at every grid point, and the run: what the launch leaves in every output
   array is the library's `Dat.arrAt` of these data. -/
module

public import proofs.«01_k».proof.Proof.Region.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 192 := lt_of_lt_of_eq t.isLt (show cfg0.N = 192 from N_0)
  rw [after0_6, after0_6]
  by_cases h0 : t.val % 12 = 0
  · by_cases h1 : t.val % 12 ≤ 3
    · by_cases h2 : (4 ≤ t.val % 12 ∧ t.val % 12 ≤ 7)
      · exfalso; omega
      · by_cases h3 : 8 ≤ t.val % 12
        · exfalso; omega
        · rw [liveAt0_6_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val % 12 ≤ 3
    · by_cases h2 : (4 ≤ t.val % 12 ∧ t.val % 12 ≤ 7)
      · exfalso; omega
      · by_cases h3 : 8 ≤ t.val % 12
        · exfalso; omega
        · rw [liveAt0_6_B t (fun h => h0 ((hcond0_0 t).mp h)) ((hcond0_1 t).mpr h1) (fun h => h2 ((hcond0_2 t).mp h)) (fun h => h3 ((hcond0_3 t).mp h))] at hi
          exact absurd hi Bool.false_ne_true
    · by_cases h2 : (4 ≤ t.val % 12 ∧ t.val % 12 ≤ 7)
      · by_cases h3 : 8 ≤ t.val % 12
        · exfalso; omega
        · rw [outsAt0_C m c t h0 h1 h2 h3]
          dsimp only
          unfold out0_C_6
          rfl
      · by_cases h3 : 8 ≤ t.val % 12
        · rw [outsAt0_D m c t h0 h1 h2 h3]
          dsimp only
          unfold out0_D_6
          rfl
        · exfalso; omega

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 192 := lt_of_lt_of_eq t.isLt (show cfg0.N = 192 from N_0)
  rw [after0_7, after0_7]
  by_cases h0 : t.val % 12 = 0
  · by_cases h1 : t.val % 12 ≤ 3
    · by_cases h2 : (4 ≤ t.val % 12 ∧ t.val % 12 ≤ 7)
      · exfalso; omega
      · by_cases h3 : 8 ≤ t.val % 12
        · exfalso; omega
        · rw [outsAt0_A m c t h0 h1 h2 h3]
          dsimp only
          unfold out0_A_7
          rfl
    · exfalso; omega
  · by_cases h1 : t.val % 12 ≤ 3
    · by_cases h2 : (4 ≤ t.val % 12 ∧ t.val % 12 ≤ 7)
      · exfalso; omega
      · by_cases h3 : 8 ≤ t.val % 12
        · exfalso; omega
        · rw [outsAt0_B m c t h0 h1 h2 h3]
          dsimp only
          unfold out0_B_7
          rfl
    · by_cases h2 : (4 ≤ t.val % 12 ∧ t.val % 12 ≤ 7)
      · by_cases h3 : 8 ≤ t.val % 12
        · exfalso; omega
        · rw [liveAt0_7_C t (fun h => h0 ((hcond0_0 t).mp h)) (fun h => h1 ((hcond0_1 t).mp h)) ((hcond0_2 t).mpr h2) (fun h => h3 ((hcond0_3 t).mp h))] at hi
          exact absurd hi Bool.false_ne_true
      · by_cases h3 : 8 ≤ t.val % 12
        · rw [outsAt0_D m c t h0 h1 h2 h3]
          dsimp only
          unfold out0_D_7
          rfl
        · exfalso; omega

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 192 := lt_of_lt_of_eq t.isLt (show cfg0.N = 192 from N_0)
  rw [after0_9, after0_9]
  by_cases h0 : t.val % 12 = 0
  · by_cases h1 : t.val % 12 ≤ 3
    · by_cases h2 : (4 ≤ t.val % 12 ∧ t.val % 12 ≤ 7)
      · exfalso; omega
      · by_cases h3 : 8 ≤ t.val % 12
        · exfalso; omega
        · rw [liveAt0_9_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val % 12 ≤ 3
    · by_cases h2 : (4 ≤ t.val % 12 ∧ t.val % 12 ≤ 7)
      · exfalso; omega
      · by_cases h3 : 8 ≤ t.val % 12
        · exfalso; omega
        · rw [outsAt0_B m c t h0 h1 h2 h3]
          dsimp only
          unfold out0_B_9
          rfl
    · by_cases h2 : (4 ≤ t.val % 12 ∧ t.val % 12 ≤ 7)
      · by_cases h3 : 8 ≤ t.val % 12
        · exfalso; omega
        · rw [outsAt0_C m c t h0 h1 h2 h3]
          dsimp only
          unfold out0_C_9
          rfl
      · by_cases h3 : 8 ≤ t.val % 12
        · rw [outsAt0_D m c t h0 h1 h2 h3]
          dsimp only
          unfold out0_D_9
          rfl
        · exfalso; omega

/-- Output 10's contents CARRY through the points that leave it idle: at such a point, its buffer not fresh, the proof data's
    `after` is the point before's (the case there stores nothing into the window and its term says so; a case that stores
    into it is not idle there by `liveAt0_10_κ`) — the hypothesis of Lib/Pipeline/TableIdle.lean `Dat.before_out_traj`. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 192 := lt_of_lt_of_eq t.isLt (show cfg0.N = 192 from N_0)
  rw [after0_10, after0_10]
  by_cases h0 : t.val % 12 = 0
  · by_cases h1 : t.val % 12 ≤ 3
    · by_cases h2 : (4 ≤ t.val % 12 ∧ t.val % 12 ≤ 7)
      · exfalso; omega
      · by_cases h3 : 8 ≤ t.val % 12
        · exfalso; omega
        · rw [liveAt0_10_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val % 12 ≤ 3
    · by_cases h2 : (4 ≤ t.val % 12 ∧ t.val % 12 ≤ 7)
      · exfalso; omega
      · by_cases h3 : 8 ≤ t.val % 12
        · exfalso; omega
        · rw [outsAt0_B m c t h0 h1 h2 h3]
          dsimp only
          unfold out0_B_10
          rfl
    · by_cases h2 : (4 ≤ t.val % 12 ∧ t.val % 12 ≤ 7)
      · by_cases h3 : 8 ≤ t.val % 12
        · exfalso; omega
        · rw [outsAt0_C m c t h0 h1 h2 h3]
          dsimp only
          unfold out0_C_10
          rfl
      · by_cases h3 : 8 ≤ t.val % 12
        · rw [outsAt0_D m c t h0 h1 h2 h3]
          dsimp only
          unfold out0_D_10
          rfl
        · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 12 = 0) (h1 : t.val % 12 ≤ 3) (h2 : ¬(4 ≤ t.val % 12 ∧ t.val % 12 ≤ 7)) (h3 : ¬8 ≤ t.val % 12) (d) :
    (dats m 0 c).before 9 t d = (outsAt0 m c (t.val - 1) (Nat.lt_of_le_of_lt (Nat.sub_le _ _) t.isLt)).2.2.2.1 := by
  rw [Dat.before_out_traj _ 9 rfl (fun _ _ => rfl) (hcarry0_9 m c) t.val t rfl d,
    if_neg (by rw [notFresh0_9_B t (fun h => h0 ((hcond0_0 t).mp h)) ((hcond0_1 t).mpr h1) (fun h => h2 ((hcond0_2 t).mp h)) (fun h => h3 ((hcond0_3 t).mp h))]; exact Bool.false_ne_true)]
  dsimp only [dats]
/-- At a point of case B output 10's current staging buffer holds what the point before left: the buffer is not fresh
    there (`notFresh0_10_B`: stored into since the region's entry or the last write-back, carried through the points that
    leave it idle by `hcarry0_10`; Lib/Pipeline/TableIdle.lean `Dat.before_out_traj`). -/
theorem before0_10_B (c : Dev nD) (t : Fin cfg0.N) (h0 : ¬t.val % 12 = 0) (h1 : t.val % 12 ≤ 3) (h2 : ¬(4 ≤ t.val % 12 ∧ t.val % 12 ≤ 7)) (h3 : ¬8 ≤ t.val % 12) (d) :
    (dats m 0 c).before 10 t d = (outsAt0 m c (t.val - 1) (Nat.lt_of_le_of_lt (Nat.sub_le _ _) t.isLt)).2.2.2.2.1 := by
  rw [Dat.before_out_traj _ 10 rfl (fun _ _ => rfl) (hcarry0_10 m c) t.val t rfl d,
    if_neg (by rw [notFresh0_10_B t (fun h => h0 ((hcond0_0 t).mp h)) ((hcond0_1 t).mpr h1) (fun h => h2 ((hcond0_2 t).mp h)) (fun h => h3 ((hcond0_3 t).mp h))]; exact Bool.false_ne_true)]
  dsimp only [dats]
/-- At a point of case C output 9's current staging buffer holds what the point before left: the buffer is not fresh
    there (`notFresh0_9_C`: stored into since the region's entry or the last write-back, carried through the points that
    leave it idle by `hcarry0_9`; Lib/Pipeline/TableIdle.lean `Dat.before_out_traj`). -/
theorem before0_9_C (c : Dev nD) (t : Fin cfg0.N) (h0 : ¬t.val % 12 = 0) (h1 : ¬t.val % 12 ≤ 3) (h2 : (4 ≤ t.val % 12 ∧ t.val % 12 ≤ 7)) (h3 : ¬8 ≤ t.val % 12) (d) :
    (dats m 0 c).before 9 t d = (outsAt0 m c (t.val - 1) (Nat.lt_of_le_of_lt (Nat.sub_le _ _) t.isLt)).2.2.2.1 := by
  rw [Dat.before_out_traj _ 9 rfl (fun _ _ => rfl) (hcarry0_9 m c) t.val t rfl d,
    if_neg (by rw [notFresh0_9_C t (fun h => h0 ((hcond0_0 t).mp h)) (fun h => h1 ((hcond0_1 t).mp h)) ((hcond0_2 t).mpr h2) (fun h => h3 ((hcond0_3 t).mp h))]; exact Bool.false_ne_true)]
  dsimp only [dats]
/-- At a point of case C output 10's current staging buffer holds what the point before left: the buffer is not fresh
    there (`notFresh0_10_C`: stored into since the region's entry or the last write-back, carried through the points that
    leave it idle by `hcarry0_10`; Lib/Pipeline/TableIdle.lean `Dat.before_out_traj`). -/
theorem before0_10_C (c : Dev nD) (t : Fin cfg0.N) (h0 : ¬t.val % 12 = 0) (h1 : ¬t.val % 12 ≤ 3) (h2 : (4 ≤ t.val % 12 ∧ t.val % 12 ≤ 7)) (h3 : ¬8 ≤ t.val % 12) (d) :
    (dats m 0 c).before 10 t d = (outsAt0 m c (t.val - 1) (Nat.lt_of_le_of_lt (Nat.sub_le _ _) t.isLt)).2.2.2.2.1 := by
  rw [Dat.before_out_traj _ 10 rfl (fun _ _ => rfl) (hcarry0_10 m c) t.val t rfl d,
    if_neg (by rw [notFresh0_10_C t (fun h => h0 ((hcond0_0 t).mp h)) (fun h => h1 ((hcond0_1 t).mp h)) ((hcond0_2 t).mpr h2) (fun h => h3 ((hcond0_3 t).mp h))]; exact Bool.false_ne_true)]
  dsimp only [dats]
/-- At a point of case D output 6's current staging buffer holds what the point before left: the buffer is not fresh
    there (`notFresh0_6_D`: stored into since the region's entry or the last write-back, carried through the points that
    leave it idle by `hcarry0_6`; Lib/Pipeline/TableIdle.lean `Dat.before_out_traj`). -/
theorem before0_6_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_D t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case D output 7's current staging buffer holds what the point before left: the buffer is not fresh
    there (`notFresh0_7_D`: stored into since the region's entry or the last write-back, carried through the points that
    leave it idle by `hcarry0_7`; Lib/Pipeline/TableIdle.lean `Dat.before_out_traj`). -/
theorem before0_7_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_D t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case D output 9's current staging buffer holds what the point before left: the buffer is not fresh
    there (`notFresh0_9_D`: stored into since the region's entry or the last write-back, carried through the points that
    leave it idle by `hcarry0_9`; Lib/Pipeline/TableIdle.lean `Dat.before_out_traj`). -/
theorem before0_9_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) (d) :
    (dats m 0 c).before 9 t d = (outsAt0 m c (t.val - 1) (Nat.lt_of_le_of_lt (Nat.sub_le _ _) t.isLt)).2.2.2.1 := by
  rw [Dat.before_out_traj _ 9 rfl (fun _ _ => rfl) (hcarry0_9 m c) t.val t rfl d,
    if_neg (by rw [notFresh0_9_D t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case D output 10's current staging buffer holds what the point before left: the buffer is not fresh
    there (`notFresh0_10_D`: stored into since the region's entry or the last write-back, carried through the points that
    leave it idle by `hcarry0_10`; Lib/Pipeline/TableIdle.lean `Dat.before_out_traj`). -/
theorem before0_10_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) (d) :
    (dats m 0 c).before 10 t d = (outsAt0 m c (t.val - 1) (Nat.lt_of_le_of_lt (Nat.sub_le _ _) t.isLt)).2.2.2.2.1 := by
  rw [Dat.before_out_traj _ 10 rfl (fun _ _ => rfl) (hcarry0_10 m c) t.val t rfl d,
    if_neg (by rw [notFresh0_10_D t (fun h => h0 ((hcond0_0 t).mp h)) (fun h => h1 ((hcond0_1 t).mp h)) (fun h => h2 ((hcond0_2 t).mp h)) ((hcond0_3 t).mpr h3)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- A window idle at a point, whose buffer the body finds at `v` and whose contents after the point are stated as `v`, is left as
    the pipeline wants it by a body that hands the buffer back at `v`: if the block is not written back there nothing is asked
    but what was found, and if it is, the write-back writes `v`. -/
theorem leaves_kept {c : Dev nD} (dat : Dat τ (Elt F) Unit ℕ (UR sig nD τ) ℕ cfg0 c) (w : Fin cfg0.W) (t : Fin cfg0.N)
    (v : (cfg0.win w).block.Idx → Elt F (cfg0.win w).elt) (hi : cfg0.idle w (cfg0.grid.coords t) = true)
    (hb : ∀ d, dat.before w t d = v) (ha : dat.after w t = v) :
    owns (c : Thread nD τ) ((cfg0.win w).stage (cfg0.slots t w)) fullShare v ⊢ dat.leavesExact w t := by
  unfold Dat.leavesExact
  rw [hi]
  cases (cfg0.win w).flush t
  · iintro H
    iexists v
    rw [hb]
    iexact H
  · rw [ha]

/-- In case D the body hands output 6's buffer back as it found it, at what the point before left. -/
theorem kept0_6_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    owns (c : Thread nD τ) (ms0_6 t) fullShare (outsAt0 m c (t.val - 1) (Nat.lt_of_le_of_lt (Nat.sub_le _ _) t.isLt)).1 ⊢ (dats m 0 c).leavesExact 6 t :=
  leaves_kept (dats m 0 c) 6 t _ (idleAt0_6_D t (fun h => h0 ((hcond0_0 t).mp h)) (fun h => h1 ((hcond0_1 t).mp h)) (fun h => h2 ((hcond0_2 t).mp h)) ((hcond0_3 t).mpr h3)) (before0_6_D m c t h0 h1 h2 h3)
    (by rw [after0_6, outsAt0_D m c t h0 h1 h2 h3]; dsimp only; unfold out0_D_6; rfl)
/-- In case D the body hands output 7's buffer back as it found it, at what the point before left. -/
theorem kept0_7_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    owns (c : Thread nD τ) (ms0_7 t) fullShare (outsAt0 m c (t.val - 1) (Nat.lt_of_le_of_lt (Nat.sub_le _ _) t.isLt)).2.1 ⊢ (dats m 0 c).leavesExact 7 t :=
  leaves_kept (dats m 0 c) 7 t _ (idleAt0_7_D t (fun h => h0 ((hcond0_0 t).mp h)) (fun h => h1 ((hcond0_1 t).mp h)) (fun h => h2 ((hcond0_2 t).mp h)) ((hcond0_3 t).mpr h3)) (before0_7_D m c t h0 h1 h2 h3)
    (by rw [after0_7, outsAt0_D m c t h0 h1 h2 h3]; dsimp only; unfold out0_D_7; rfl)
/-- In case B the body hands output 9's buffer back as it found it, at what the point before left. -/
theorem kept0_9_B (c : Dev nD) (t : Fin cfg0.N) (h0 : ¬t.val % 12 = 0) (h1 : t.val % 12 ≤ 3) (h2 : ¬(4 ≤ t.val % 12 ∧ t.val % 12 ≤ 7)) (h3 : ¬8 ≤ t.val % 12) :
    owns (c : Thread nD τ) (ms0_9 t) fullShare (outsAt0 m c (t.val - 1) (Nat.lt_of_le_of_lt (Nat.sub_le _ _) t.isLt)).2.2.2.1 ⊢ (dats m 0 c).leavesExact 9 t :=
  leaves_kept (dats m 0 c) 9 t _ (idleAt0_9_B t (fun h => h0 ((hcond0_0 t).mp h)) ((hcond0_1 t).mpr h1) (fun h => h2 ((hcond0_2 t).mp h)) (fun h => h3 ((hcond0_3 t).mp h))) (before0_9_B m c t h0 h1 h2 h3)
    (by rw [after0_9, outsAt0_B m c t h0 h1 h2 h3]; dsimp only; unfold out0_B_9; rfl)
/-- In case B the body hands output 10's buffer back as it found it, at what the point before left. -/
theorem kept0_10_B (c : Dev nD) (t : Fin cfg0.N) (h0 : ¬t.val % 12 = 0) (h1 : t.val % 12 ≤ 3) (h2 : ¬(4 ≤ t.val % 12 ∧ t.val % 12 ≤ 7)) (h3 : ¬8 ≤ t.val % 12) :
    owns (c : Thread nD τ) (ms0_10 t) fullShare (outsAt0 m c (t.val - 1) (Nat.lt_of_le_of_lt (Nat.sub_le _ _) t.isLt)).2.2.2.2.1 ⊢ (dats m 0 c).leavesExact 10 t :=
  leaves_kept (dats m 0 c) 10 t _ (idleAt0_10_B t (fun h => h0 ((hcond0_0 t).mp h)) ((hcond0_1 t).mpr h1) (fun h => h2 ((hcond0_2 t).mp h)) (fun h => h3 ((hcond0_3 t).mp h))) (before0_10_B m c t h0 h1 h2 h3)
    (by rw [after0_10, outsAt0_B m c t h0 h1 h2 h3]; dsimp only; unfold out0_B_10; rfl)
/-- In case C the body hands output 9's buffer back as it found it, at what the point before left. -/
theorem kept0_9_C (c : Dev nD) (t : Fin cfg0.N) (h0 : ¬t.val % 12 = 0) (h1 : ¬t.val % 12 ≤ 3) (h2 : (4 ≤ t.val % 12 ∧ t.val % 12 ≤ 7)) (h3 : ¬8 ≤ t.val % 12) :
    owns (c : Thread nD τ) (ms0_9 t) fullShare (outsAt0 m c (t.val - 1) (Nat.lt_of_le_of_lt (Nat.sub_le _ _) t.isLt)).2.2.2.1 ⊢ (dats m 0 c).leavesExact 9 t :=
  leaves_kept (dats m 0 c) 9 t _ (idleAt0_9_C t (fun h => h0 ((hcond0_0 t).mp h)) (fun h => h1 ((hcond0_1 t).mp h)) ((hcond0_2 t).mpr h2) (fun h => h3 ((hcond0_3 t).mp h))) (before0_9_C m c t h0 h1 h2 h3)
    (by rw [after0_9, outsAt0_C m c t h0 h1 h2 h3]; dsimp only; unfold out0_C_9; rfl)
/-- In case C the body hands output 10's buffer back as it found it, at what the point before left. -/
theorem kept0_10_C (c : Dev nD) (t : Fin cfg0.N) (h0 : ¬t.val % 12 = 0) (h1 : ¬t.val % 12 ≤ 3) (h2 : (4 ≤ t.val % 12 ∧ t.val % 12 ≤ 7)) (h3 : ¬8 ≤ t.val % 12) :
    owns (c : Thread nD τ) (ms0_10 t) fullShare (outsAt0 m c (t.val - 1) (Nat.lt_of_le_of_lt (Nat.sub_le _ _) t.isLt)).2.2.2.2.1 ⊢ (dats m 0 c).leavesExact 10 t :=
  leaves_kept (dats m 0 c) 10 t _ (idleAt0_10_C t (fun h => h0 ((hcond0_0 t).mp h)) (fun h => h1 ((hcond0_1 t).mp h)) ((hcond0_2 t).mpr h2) (fun h => h3 ((hcond0_3 t).mp h))) (before0_10_C m c t h0 h1 h2 h3)
    (by rw [after0_10, outsAt0_C m c t h0 h1 h2 h3]; dsimp only; unfold out0_C_10; rfl)
/-- In case D the body hands output 9's buffer back as it found it, at what the point before left. -/
theorem kept0_9_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    owns (c : Thread nD τ) (ms0_9 t) fullShare (outsAt0 m c (t.val - 1) (Nat.lt_of_le_of_lt (Nat.sub_le _ _) t.isLt)).2.2.2.1 ⊢ (dats m 0 c).leavesExact 9 t :=
  leaves_kept (dats m 0 c) 9 t _ (idleAt0_9_D t (fun h => h0 ((hcond0_0 t).mp h)) (fun h => h1 ((hcond0_1 t).mp h)) (fun h => h2 ((hcond0_2 t).mp h)) ((hcond0_3 t).mpr h3)) (before0_9_D m c t h0 h1 h2 h3)
    (by rw [after0_9, outsAt0_D m c t h0 h1 h2 h3]; dsimp only; unfold out0_D_9; rfl)
/-- In case D the body hands output 10's buffer back as it found it, at what the point before left. -/
theorem kept0_10_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    owns (c : Thread nD τ) (ms0_10 t) fullShare (outsAt0 m c (t.val - 1) (Nat.lt_of_le_of_lt (Nat.sub_le _ _) t.isLt)).2.2.2.2.1 ⊢ (dats m 0 c).leavesExact 10 t :=
  leaves_kept (dats m 0 c) 10 t _ (idleAt0_10_D t (fun h => h0 ((hcond0_0 t).mp h)) (fun h => h1 ((hcond0_1 t).mp h)) (fun h => h2 ((hcond0_2 t).mp h)) ((hcond0_3 t).mpr h3)) (before0_10_D m c t h0 h1 h2 h3)
    (by rw [after0_10, outsAt0_D m c t h0 h1 h2 h3]; dsimp only; unfold out0_D_10; rfl)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  by_cases h0 : t.val % 12 = 0
  · by_cases h1 : t.val % 12 ≤ 3
    · by_cases h2 : (4 ≤ t.val % 12 ∧ t.val % 12 ≤ 7)
      · exfalso; omega
      · by_cases h3 : 8 ≤ t.val % 12
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h)) (fun h => h3 ((hcond0_3 t).mp h))], after0_6]
          rw [Dat.leavesExact_idle (dats m 0 c) 7 t (idleAt0_7_A t ((hcond0_0 t).mpr h0) ((hcond0_1 t).mpr h1) (fun h => h2 ((hcond0_2 t).mp h)) (fun h => h3 ((hcond0_3 t).mp h))) (noFlush0_7_A t ((hcond0_0 t).mpr h0) ((hcond0_1 t).mpr h1) (fun h => h2 ((hcond0_2 t).mp h)) (fun h => h3 ((hcond0_3 t).mp h)))]
          rw [Dat.leavesExact_idle (dats m 0 c) 8 t (idleAt0_8_A t ((hcond0_0 t).mpr h0) ((hcond0_1 t).mpr h1) (fun h => h2 ((hcond0_2 t).mp h)) (fun h => h3 ((hcond0_3 t).mp h))) (noFlush0_8_A t ((hcond0_0 t).mpr h0) ((hcond0_1 t).mpr h1) (fun h => h2 ((hcond0_2 t).mp h)) (fun h => h3 ((hcond0_3 t).mp h)))]
          rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h)) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h)) (fun h => h3 ((hcond0_3 t).mp h))], after0_10]
          by_cases hz : t.val = 0
          · rw [PhiS_castSucc m c t, PhiS_zero m c _ _ hz, PhiA0_eq]
            rw [outsAt0_A m c t h0 h1 h2 h3]
            unfold out0_A_6 out0_A_9 out0_A_10 sout0_A_0 sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)).2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            isplitl [H9]; · iexists _; iexact H9
            isplitl [H10]; · iexists _; iexact H10
            isplitl [HS0]; · iexact HS0
            isplitl [HS1]; · iexact HS1
            iintro ⟨H0, H1, H2, H3, H4, H5, ⟨%e6, H6⟩, H7, H8, ⟨%e9, H9⟩, ⟨%e10, H10⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_A_6 c _ _ _ _ _ _ _ _ _ _ _ _ _ _ _ _ _ _ _ _ _ _ _ _ _ _ _ _ _ _ _ _ _ _ _ _ _)
            isplitl [H7]; · iexists _; iexact H7
            isplitl [H8]; · iexists _; iexact H8
            isplitl [H9]
            · unfold owns; iexists _; isplitr
              swap; · iexact H9
              ipureintro; exact View.read_writes_of_cover _ _ _ _ _ (cover0_A_9 c _ _ _ _ _ _ _ _ _ _ _ _ _ _ _ _ _ _ _ _ _ _ _ _ _ _ _ _ _ _ _ _ _ _ _ _ _)
            unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _)
          · rw [PhiS_castSucc m c t, PhiS_pos m c _ _ hz]
            rw [outsAt0_A m c t h0 h1 h2 h3]
            unfold out0_A_6 out0_A_9 out0_A_10 sout0_A_0 sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)).2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            isplitl [H9]; · iexists _; iexact H9
            isplitl [H10]; · iexists _; iexact H10
            isplitl [HS0]; · iexists _; iexact HS0
            isplitl [HS1]; · iexists _; iexact HS1
            iintro ⟨H0, H1, H2, H3, H4, H5, ⟨%e6, H6⟩, H7, H8, ⟨%e9, H9⟩, ⟨%e10, H10⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_A_6 c _ _ _ _ _ _ _ _ _ _ _ _ _ _ _ _ _ _ _ _ _ _ _ _ _ _ _ _ _ _ _ _ _ _ _ _ _)
            isplitl [H7]; · iexists _; iexact H7
            isplitl [H8]; · iexists _; iexact H8
            isplitl [H9]
            · unfold owns; iexists _; isplitr
              swap; · iexact H9
              ipureintro; exact View.read_writes_of_cover _ _ _ _ _ (cover0_A_9 c _ _ _ _ _ _ _ _ _ _ _ _ _ _ _ _ _ _ _ _ _ _ _ _ _ _ _ _ _ _ _ _ _ _ _ _ _)
            unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _)
    · exfalso; omega
  · by_cases h1 : t.val % 12 ≤ 3
    · by_cases h2 : (4 ≤ t.val % 12 ∧ t.val % 12 ≤ 7)
      · exfalso; omega
      · by_cases h3 : 8 ≤ t.val % 12
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) (fun h => h3 ((hcond0_3 t).mp h))], after0_6]
          rw [Dat.leavesExact_idle (dats m 0 c) 7 t (idleAt0_7_B t (fun h => h0 ((hcond0_0 t).mp h)) ((hcond0_1 t).mpr h1) (fun h => h2 ((hcond0_2 t).mp h)) (fun h => h3 ((hcond0_3 t).mp h))) (noFlush0_7_B t (fun h => h0 ((hcond0_0 t).mp h)) ((hcond0_1 t).mpr h1) (fun h => h2 ((hcond0_2 t).mp h)) (fun h => h3 ((hcond0_3 t).mp h)))]
          rw [Dat.leavesExact_idle (dats m 0 c) 8 t (idleAt0_8_B t (fun h => h0 ((hcond0_0 t).mp h)) ((hcond0_1 t).mpr h1) (fun h => h2 ((hcond0_2 t).mp h)) (fun h => h3 ((hcond0_3 t).mp h))) (noFlush0_8_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 192 := lt_of_lt_of_eq t.isLt (show cfg0.N = 192 from N_0); omega
          · rw [PhiS_castSucc m c t, PhiS_pos m c _ _ hz]
            rw [outsAt0_B m c t h0 h1 h2 h3]
            simp only [before0_9_B m c t h0 h1 h2 h3, before0_10_B m c t h0 h1 h2 h3]
            unfold out0_B_6 sout0_B_0 sout0_B_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) _ _ _ _).2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            isplitl [H9]; · iexact H9
            isplitl [H10]; · iexact H10
            isplitl [HS0]; · iexact HS0
            isplitl [HS1]; · iexact HS1
            iintro ⟨H0, H1, H2, H3, H4, H5, ⟨%e6, H6⟩, H7, H8, H9, H10, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_B_6 c _ _ _ _ _ _ _ _ _ _ _ _ _ _ _ _ _ _ _ _ _ _ _ _ _ _ _ _ _ _ _ _ _ _ _ _ _ _ _ _ _)
            isplitl [H7]; · iexists _; iexact H7
            isplitl [H8]; · iexists _; iexact H8
            isplitl [H9]; · iapply (kept0_9_B m c t h0 h1 h2 h3); iexact H9
            iapply (kept0_10_B m c t h0 h1 h2 h3); iexact H10
    · by_cases h2 : (4 ≤ t.val % 12 ∧ t.val % 12 ≤ 7)
      · by_cases h3 : 8 ≤ t.val % 12
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_C t (fun h => h0 ((hcond0_0 t).mp h)) (fun h => h1 ((hcond0_1 t).mp h)) ((hcond0_2 t).mpr h2) (fun h => h3 ((hcond0_3 t).mp h))) (noFlush0_6_C t (fun h => h0 ((hcond0_0 t).mp h)) (fun h => h1 ((hcond0_1 t).mp h)) ((hcond0_2 t).mpr h2) (fun h => h3 ((hcond0_3 t).mp h)))]
          rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) (fun h => h3 ((hcond0_3 t).mp h))], after0_7]
          rw [Dat.leavesExact_idle (dats m 0 c) 8 t (idleAt0_8_C t (fun h => h0 ((hcond0_0 t).mp h)) (fun h => h1 ((hcond0_1 t).mp h)) ((hcond0_2 t).mpr h2) (fun h => h3 ((hcond0_3 t).mp h))) (noFlush0_8_C t (fun h => h0 ((hcond0_0 t).mp h)) (fun h => h1 ((hcond0_1 t).mp h)) ((hcond0_2 t).mpr h2) (fun h => h3 ((hcond0_3 t).mp h)))]
          by_cases hz : t.val = 0
          · exfalso; have hN : t.val < 192 := lt_of_lt_of_eq t.isLt (show cfg0.N = 192 from N_0); omega
          · rw [PhiS_castSucc m c t, PhiS_pos m c _ _ hz]
            rw [outsAt0_C m c t h0 h1 h2 h3]
            simp only [before0_9_C m c t h0 h1 h2 h3, before0_10_C m c t h0 h1 h2 h3]
            unfold out0_C_7 sout0_C_0 sout0_C_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) _ _ _ _).2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [H8]; · iexact H8
            isplitl [H9]; · iexact H9
            isplitl [H10]; · iexact H10
            isplitl [HS0]; · iexact HS0
            isplitl [HS1]; · iexact HS1
            iintro ⟨H0, H1, H2, H3, H4, H5, H6, ⟨%e7, H7⟩, H8, H9, H10, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]
            · unfold owns; iexists _; isplitr
              swap; · iexact H7
              ipureintro; exact View.read_writes_of_cover _ _ _ _ _ (cover0_C_7 c _ _ _ _ _ _ _ _ _ _ _ _ _ _ _ _ _ _ _ _ _ _ _ _ _ _ _ _ _ _ _ _ _ _ _ _ _ _ _ _ _)
            isplitl [H8]; · iexists _; iexact H8
            isplitl [H9]; · iapply (kept0_9_C m c t h0 h1 h2 h3); iexact H9
            iapply (kept0_10_C m c t h0 h1 h2 h3); iexact H10
      · by_cases h3 : 8 ≤ t.val % 12
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 8 t = owns (c : Thread nD τ) (ms0_8 t) fullShare ((dats m 0 c).after 8 t) from by
      unfold Dat.leavesExact; rw [liveAt0_8_D t (fun h => h0 ((hcond0_0 t).mp h)) (fun h => h1 ((hcond0_1 t).mp h)) (fun h => h2 ((hcond0_2 t).mp h)) ((hcond0_3 t).mpr h3)], after0_8]
          by_cases hz : t.val = 0
          · exfalso; have hN : t.val < 192 := lt_of_lt_of_eq t.isLt (show cfg0.N = 192 from N_0); omega
          · rw [PhiS_castSucc m c t, PhiS_pos m c _ _ hz]
            rw [outsAt0_D m c t h0 h1 h2 h3]
            simp only [before0_6_D m c t h0 h1 h2 h3, before0_7_D m c t h0 h1 h2 h3, before0_9_D m c t h0 h1 h2 h3, before0_10_D m c t h0 h1 h2 h3]
            unfold out0_D_8 sout0_D_0 sout0_D_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_D c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) _ _ _ _ _ _).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexact H9
            isplitl [H10]; · iexact H10
            isplitl [HS0]; · iexact HS0
            isplitl [HS1]; · iexact HS1
            iintro ⟨H0, H1, H2, H3, H4, H5, H6, H7, ⟨%e8, H8⟩, H9, H10, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iapply (kept0_6_D m c t h0 h1 h2 h3); iexact H6
            isplitl [H7]; · iapply (kept0_7_D m c t h0 h1 h2 h3); iexact H7
            isplitl [H8]
            · unfold owns; iexists _; isplitr
              swap; · iexact H8
              ipureintro; exact View.read_writes_of_cover _ _ _ _ _ (cover0_D_8 c _ _ _ _ _ _ _ _ _ _ _ _ _ _ _ _ _ _ _ _ _ _ _ _ _ _ _ _ _ _ _ _ _ _ _ _ _ _ _ _ _ _ _)
            isplitl [H9]; · iapply (kept0_9_D m c t h0 h1 h2 h3); iexact H9
            iapply (kept0_10_D m c t h0 h1 h2 h3); iexact H10
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Region.Blocks.lean ====
/- The kernel's results after the run, block by block: what each grid point writes back is the run's contents for the window, and each
   result array is the library's `arrAt` of these blocks. -/
module

public import proofs.«01_k».proof.Proof.Region.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 12 = 0) (h1 : t.val % 12 ≤ 3) (h2 : ¬(4 ≤ t.val % 12 ∧ t.val % 12 ≤ 7)) (h3 : ¬8 ≤ t.val % 12) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) := by
  simp only [flushed6, outsAt0_A m c t h0 h1 h2 h3]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 12 = 0) (h1 : t.val % 12 ≤ 3) (h2 : ¬(4 ≤ t.val % 12 ∧ t.val % 12 ≤ 7)) (h3 : ¬8 ≤ t.val % 12) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed6, outsAt0_B m c t h0 h1 h2 h3]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 12 = 0) (h1 : ¬t.val % 12 ≤ 3) (h2 : (4 ≤ t.val % 12 ∧ t.val % 12 ≤ 7)) (h3 : ¬8 ≤ t.val % 12) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).1) := by
  simp only [flushed6, outsAt0_C m c t h0 h1 h2 h3]

/-- … so at a point where case D runs, what its write-back would write is that case's NAMED TERM for the window (`Gen.out0_D_6`: the pieces
    its run found, read back) at the point's memrefs and input blocks, and for an output the case reads back what the point before left (`Gen.outsAt0` at `t - 1`) — by the frame's rewriting lemma for the case. -/
theorem flushed6_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    (dats m 0 c).flushed 6 t = (cfg0.win 6).cut (grid0.coords t) (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed6, outsAt0_D m c t h0 h1 h2 h3]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S16384x4096.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 12 = 0) (h1 : t.val % 12 ≤ 3) (h2 : ¬(4 ≤ t.val % 12 ∧ t.val % 12 ≤ 7)) (h3 : ¬8 ≤ t.val % 12) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1) := by
  simp only [flushed7, outsAt0_A m c t h0 h1 h2 h3]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 12 = 0) (h1 : t.val % 12 ≤ 3) (h2 : ¬(4 ≤ t.val % 12 ∧ t.val % 12 ≤ 7)) (h3 : ¬8 ≤ t.val % 12) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (outsAt0 m c (t.val - 1) (Nat.lt_of_le_of_lt (Nat.sub_le _ _) t.isLt)).2.1) := by
  simp only [flushed7, outsAt0_B m c t h0 h1 h2 h3]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 12 = 0) (h1 : ¬t.val % 12 ≤ 3) (h2 : (4 ≤ t.val % 12 ∧ t.val % 12 ≤ 7)) (h3 : ¬8 ≤ t.val % 12) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed7, outsAt0_C m c t h0 h1 h2 h3]

/-- … so at a point where case D runs, what its write-back would write is that case's NAMED TERM for the window (`Gen.out0_D_7`: the pieces
    its run found, read back) at the point's memrefs and input blocks, and for an output the case reads back what the point before left (`Gen.outsAt0` at `t - 1`) — by the frame's rewriting lemma for the case. -/
theorem flushed7_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    (dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed7, outsAt0_D m c t h0 h1 h2 h3]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S16384x4096.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 2), read through the window's block. -/
theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 12 = 0) (h1 : t.val % 12 ≤ 3) (h2 : ¬(4 ≤ t.val % 12 ∧ t.val % 12 ≤ 7)) (h3 : ¬8 ≤ t.val % 12) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) := by
  simp only [flushed8, outsAt0_A m c t h0 h1 h2 h3]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 12 = 0) (h1 : t.val % 12 ≤ 3) (h2 : ¬(4 ≤ t.val % 12 ∧ t.val % 12 ≤ 7)) (h3 : ¬8 ≤ t.val % 12) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed8, outsAt0_B m c t h0 h1 h2 h3]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 12 = 0) (h1 : ¬t.val % 12 ≤ 3) (h2 : (4 ≤ t.val % 12 ∧ t.val % 12 ≤ 7)) (h3 : ¬8 ≤ t.val % 12) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed8, outsAt0_C m c t h0 h1 h2 h3]

/-- … so at a point where case D runs, what its write-back would write is that case's NAMED TERM for the window (`Gen.out0_D_8`: the pieces
    its run found, read back) at the point's memrefs and input blocks, and for an output the case reads back what the point before left (`Gen.outsAt0` at `t - 1`) — by the frame's rewriting lemma for the case. -/
theorem flushed8_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    (dats m 0 c).flushed 8 t = (cfg0.win 8).cut (grid0.coords t) (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed8, outsAt0_D m c t h0 h1 h2 h3]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S16384x4096.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 3), read through the window's block. -/
theorem flushed9 (c : Dev nD) (t : Fin cfg0.N) :
    (dats m 0 c).flushed 9 t = (cfg0.win 9).cut (grid0.coords t) ((outsAt0 m c t.val t.isLt).2.2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 12 = 0) (h1 : t.val % 12 ≤ 3) (h2 : ¬(4 ≤ t.val % 12 ∧ t.val % 12 ≤ 7)) (h3 : ¬8 ≤ t.val % 12) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) := by
  simp only [flushed9, outsAt0_A m c t h0 h1 h2 h3]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 12 = 0) (h1 : t.val % 12 ≤ 3) (h2 : ¬(4 ≤ t.val % 12 ∧ t.val % 12 ≤ 7)) (h3 : ¬8 ≤ t.val % 12) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed9, outsAt0_B m c t h0 h1 h2 h3]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 12 = 0) (h1 : ¬t.val % 12 ≤ 3) (h2 : (4 ≤ t.val % 12 ∧ t.val % 12 ≤ 7)) (h3 : ¬8 ≤ t.val % 12) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed9, outsAt0_C m c t h0 h1 h2 h3]

/-- … so at a point where case D runs, what its write-back would write is that case's NAMED TERM for the window (`Gen.out0_D_9`: the pieces
    its run found, read back) at the point's memrefs and input blocks, and for an output the case reads back what the point before left (`Gen.outsAt0` at `t - 1`) — by the frame's rewriting lemma for the case. -/
theorem flushed9_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    (dats m 0 c).flushed 9 t = (cfg0.win 9).cut (grid0.coords t) (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed9, outsAt0_D m c t h0 h1 h2 h3]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S16384x4096.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 4), read through the window's block. -/
theorem flushed10 (c : Dev nD) (t : Fin cfg0.N) :
    (dats m 0 c).flushed 10 t = (cfg0.win 10).cut (grid0.coords t) ((outsAt0 m c t.val t.isLt).2.2.2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 12 = 0) (h1 : t.val % 12 ≤ 3) (h2 : ¬(4 ≤ t.val % 12 ∧ t.val % 12 ≤ 7)) (h3 : ¬8 ≤ t.val % 12) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) := by
  simp only [flushed10, outsAt0_A m c t h0 h1 h2 h3]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 12 = 0) (h1 : t.val % 12 ≤ 3) (h2 : ¬(4 ≤ t.val % 12 ∧ t.val % 12 ≤ 7)) (h3 : ¬8 ≤ t.val % 12) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed10, outsAt0_B m c t h0 h1 h2 h3]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 12 = 0) (h1 : ¬t.val % 12 ≤ 3) (h2 : (4 ≤ t.val % 12 ∧ t.val % 12 ≤ 7)) (h3 : ¬8 ≤ t.val % 12) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed10, outsAt0_C m c t h0 h1 h2 h3]

/-- … so at a point where case D runs, what its write-back would write is that case's NAMED TERM for the window (`Gen.out0_D_10`: the pieces
    its run found, read back) at the point's memrefs and input blocks, and for an output the case reads back what the point before left (`Gen.outsAt0` at `t - 1`) — by the frame's rewriting lemma for the case. -/
theorem flushed10_D (c : Dev nD) (t : Fin cfg0.N) (h0 : ¬t.val % 12 = 0) (h1 : ¬t.val % 12 ≤ 3) (h2 : ¬(4 ≤ t.val % 12 ∧ t.val % 12 ≤ 7)) (h3 : 8 ≤ t.val % 12) :
    (dats m 0 c).flushed 10 t = (cfg0.win 10).cut (grid0.coords t) (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed10, outsAt0_D m c t h0 h1 h2 h3]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S16384x1.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v17_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v17_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v17_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v17_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v17_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v17_0) = (dats m 0 c).arrAt 6 cfg0.N
      ∧ r.2.mem ((c : Thread nD τ).loc main_v17_1) = (dats m 0 c).arrAt 7 cfg0.N
      ∧ r.2.mem ((c : Thread nD τ).loc main_v17_2) = (dats m 0 c).arrAt 8 cfg0.N
      ∧ r.2.mem ((c : Thread nD τ).loc main_v17_3) = (dats m 0 c).arrAt 9 cfg0.N
      ∧ r.2.mem ((c : Thread nD τ).loc main_v17_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 12)
    stores the scratch whole without reading what it held, and `acc` does not enter there (nor where no point meets the
    conditions: `acc`, never read). -/
def scAt0_0 (c : Dev nD) (n : ℕ) (hb : n < cfg0.N) (acc : Vec F S1024x128 .f32) : Vec F S1024x128 .f32 :=
  if h0 : n % 12 = 0 then
    if h1 : n % 12 ≤ 3 then
      if h2 : (4 ≤ n % 12 ∧ n % 12 ≤ 7) then
        acc
      else
        if h3 : 8 ≤ n % 12 then
          acc
        else
          sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      acc
  else
    if h1 : n % 12 ≤ 3 then
      if h2 : (4 ≤ n % 12 ∧ n % 12 ≤ 7) then
        acc
      else
        if h3 : 8 ≤ n % 12 then
          acc
        else
          sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2
    else
      if h2 : (4 ≤ n % 12 ∧ n % 12 ≤ 7) then
        if h3 : 8 ≤ n % 12 then
          acc
        else
          sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2
      else
        if h3 : 8 ≤ n % 12 then
          sout0_D_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).1 (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2
        else
          acc

/-- WHAT CARRIED SCRATCH 0 HOLDS after point `t`: the fold of its run up to `t`, from the reset at the run's first point
    `12·(t / 12)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.2.1 = Pipeline.accAt (fun n h => scAt0_0 m c n h (VS0_0.read (Elt F) VS0_0.junk)) (scAt0_0 m c) (12 * (t.val / 12)) (t.val % 12)
      (by have h1 := t.isLt; have h2 := Nat.div_add_mod t.val 12; omega) :=
  Pipeline.eq_accAt_of_mod (fun n h => (outsAt0 m c n h).2.2.2.2.2.1) 12 (fun n h => scAt0_0 m c n h (VS0_0.read (Elt F) VS0_0.junk)) (scAt0_0 m c)
    (fun n h hn => by
      have hN := lt_of_lt_of_eq h (show cfg0.N = 192 from N_0)
      by_cases h0 : n % 12 = 0 <;> by_cases h1 : n % 12 ≤ 3 <;> by_cases h2 : (4 ≤ n % 12 ∧ n % 12 ≤ 7) <;> by_cases h3 : 8 ≤ n % 12
      all_goals first | (exfalso; omega) | (rw [outsAt0_A m c ⟨n, h⟩ h0 h1 h2 h3]; dsimp only; unfold scAt0_0; rw [dif_pos h0, dif_pos h1, dif_neg h2, dif_neg h3] <;> try rfl) | (rw [outsAt0_B m c ⟨n, h⟩ h0 h1 h2 h3]; dsimp only; unfold scAt0_0; rw [dif_neg h0, dif_pos h1, dif_neg h2, dif_neg h3] <;> try rfl) | (rw [outsAt0_C m c ⟨n, h⟩ h0 h1 h2 h3]; dsimp only; unfold scAt0_0; rw [dif_neg h0, dif_neg h1, dif_pos h2, dif_neg h3] <;> try rfl) | (rw [outsAt0_D m c ⟨n, h⟩ h0 h1 h2 h3]; dsimp only; unfold scAt0_0; rw [dif_neg h0, dif_neg h1, dif_neg h2, dif_pos h3] <;> try rfl))
    (fun n h hn => by
      have hN := lt_of_lt_of_eq h (show cfg0.N = 192 from N_0)
      by_cases h0 : (n + 1) % 12 = 0 <;> by_cases h1 : (n + 1) % 12 ≤ 3 <;> by_cases h2 : (4 ≤ (n + 1) % 12 ∧ (n + 1) % 12 ≤ 7) <;> by_cases h3 : 8 ≤ (n + 1) % 12
      all_goals first | (exfalso; omega) | (rw [outsAt0_A m c ⟨n + 1, h⟩ h0 h1 h2 h3]; dsimp only; unfold scAt0_0; rw [dif_pos h0, dif_pos h1, dif_neg h2, dif_neg h3] <;> try rfl) | (rw [outsAt0_B m c ⟨n + 1, h⟩ h0 h1 h2 h3]; dsimp only; unfold scAt0_0; rw [dif_neg h0, dif_pos h1, dif_neg h2, dif_neg h3] <;> try rfl) | (rw [outsAt0_C m c ⟨n + 1, h⟩ h0 h1 h2 h3]; dsimp only; unfold scAt0_0; rw [dif_neg h0, dif_neg h1, dif_pos h2, dif_neg h3] <;> try rfl) | (rw [outsAt0_D m c ⟨n + 1, h⟩ h0 h1 h2 h3]; dsimp only; unfold scAt0_0; rw [dif_neg h0, dif_neg h1, dif_neg h2, dif_pos h3] <;> try rfl))
    (by decide) t.val t.isLt _

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 12)
    stores the scratch whole without reading what it held, and `acc` does not enter there (nor where no point meets the
    conditions: `acc`, never read). -/
def scAt0_1 (c : Dev nD) (n : ℕ) (hb : n < cfg0.N) (acc : Vec F S1024x128 .f32) : Vec F S1024x128 .f32 :=
  if h0 : n % 12 = 0 then
    if h1 : n % 12 ≤ 3 then
      if h2 : (4 ≤ n % 12 ∧ n % 12 ≤ 7) then
        acc
      else
        if h3 : 8 ≤ n % 12 then
          acc
        else
          sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      acc
  else
    if h1 : n % 12 ≤ 3 then
      if h2 : (4 ≤ n % 12 ∧ n % 12 ≤ 7) then
        acc
      else
        if h3 : 8 ≤ n % 12 then
          acc
        else
          sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc
    else
      if h2 : (4 ≤ n % 12 ∧ n % 12 ≤ 7) then
        if h3 : 8 ≤ n % 12 then
          acc
        else
          sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc
      else
        if h3 : 8 ≤ n % 12 then
          sout0_D_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).1 (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc
        else
          acc

/-- WHAT CARRIED SCRATCH 1 HOLDS after point `t`: the fold of its run up to `t`, from the reset at the run's first point
    `12·(t / 12)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2.2 = Pipeline.accAt (fun n h => scAt0_1 m c n h (VS0_1.read (Elt F) VS0_1.junk)) (scAt0_1 m c) (12 * (t.val / 12)) (t.val % 12)
      (by have h1 := t.isLt; have h2 := Nat.div_add_mod t.val 12; omega) :=
  Pipeline.eq_accAt_of_mod (fun n h => (outsAt0 m c n h).2.2.2.2.2.2) 12 (fun n h => scAt0_1 m c n h (VS0_1.read (Elt F) VS0_1.junk)) (scAt0_1 m c)
    (fun n h hn => by
      have hN := lt_of_lt_of_eq h (show cfg0.N = 192 from N_0)
      by_cases h0 : n % 12 = 0 <;> by_cases h1 : n % 12 ≤ 3 <;> by_cases h2 : (4 ≤ n % 12 ∧ n % 12 ≤ 7) <;> by_cases h3 : 8 ≤ n % 12
      all_goals first | (exfalso; omega) | (rw [outsAt0_A m c ⟨n, h⟩ h0 h1 h2 h3]; dsimp only; unfold scAt0_1; rw [dif_pos h0, dif_pos h1, dif_neg h2, dif_neg h3] <;> try rfl) | (rw [outsAt0_B m c ⟨n, h⟩ h0 h1 h2 h3]; dsimp only; unfold scAt0_1; rw [dif_neg h0, dif_pos h1, dif_neg h2, dif_neg h3] <;> try rfl) | (rw [outsAt0_C m c ⟨n, h⟩ h0 h1 h2 h3]; dsimp only; unfold scAt0_1; rw [dif_neg h0, dif_neg h1, dif_pos h2, dif_neg h3] <;> try rfl) | (rw [outsAt0_D m c ⟨n, h⟩ h0 h1 h2 h3]; dsimp only; unfold scAt0_1; rw [dif_neg h0, dif_neg h1, dif_neg h2, dif_pos h3] <;> try rfl))
    (fun n h hn => by
      have hN := lt_of_lt_of_eq h (show cfg0.N = 192 from N_0)
      by_cases h0 : (n + 1) % 12 = 0 <;> by_cases h1 : (n + 1) % 12 ≤ 3 <;> by_cases h2 : (4 ≤ (n + 1) % 12 ∧ (n + 1) % 12 ≤ 7) <;> by_cases h3 : 8 ≤ (n + 1) % 12
      all_goals first | (exfalso; omega) | (rw [outsAt0_A m c ⟨n + 1, h⟩ h0 h1 h2 h3]; dsimp only; unfold scAt0_1; rw [dif_pos h0, dif_pos h1, dif_neg h2, dif_neg h3] <;> try rfl) | (rw [outsAt0_B m c ⟨n + 1, h⟩ h0 h1 h2 h3]; dsimp only; unfold scAt0_1; rw [dif_neg h0, dif_pos h1, dif_neg h2, dif_neg h3] <;> try rfl) | (rw [outsAt0_C m c ⟨n + 1, h⟩ h0 h1 h2 h3]; dsimp only; unfold scAt0_1; rw [dif_neg h0, dif_neg h1, dif_pos h2, dif_neg h3] <;> try rfl) | (rw [outsAt0_D m c ⟨n + 1, h⟩ h0 h1 h2 h3]; dsimp only; unfold scAt0_1; rw [dif_neg h0, dif_neg h1, dif_neg h2, dif_pos h3] <;> try rfl))
    (by decide) t.val t.isLt _

end Cert.KernelIdeal.Value

end
-- ==== Proof.Region.Same.lean ====
module

public import proofs.«01_k».proof.Defs
public import proofs.«01_k».proof.Proof.Gen.Kernel
public import proofs.«01_k».proof.Proof.Gen.KernelIdeal
public import proofs.«01_k».proof.Proof.Region.Frame

@[expose] public section

set_option maxRecDepth 65536

noncomputable section

/-! The kernel and the program read at the ideal instance are the same text, so the frame of the one is the other's. -/

namespace Cert.Same

open Idealize.ShloMosaic Idealize.SL.Sem

attribute [local instance] Cert.Kernel.Gen.facts Cert.KernelIdeal.Gen.facts

theorem body_tc (t s) : Cert.Kernel.defs₀ (F := Bits) .tc 0 (t, s) = Cert.KernelIdeal.defs₀ (F := Bits) .tc 0 (t, s) := rfl
theorem body_scScalar (x ℓ a) : Cert.Kernel.defs₀ (F := Bits) (.scScalar x) ℓ a = Cert.KernelIdeal.defs₀ (F := Bits) (.scScalar x) ℓ a := rfl
theorem body_scVector (x y ℓ a) : Cert.Kernel.defs₀ (F := Bits) (.scVector x y) ℓ a = Cert.KernelIdeal.defs₀ (F := Bits) (.scVector x y) ℓ a := rfl

/-- The two programs' body tables are the same. -/
theorem bodies_eq : Cert.Kernel.defs₀ (F := Bits) = Cert.KernelIdeal.defs₀ (F := Bits) := by
  funext p ℓ a
  cases p with
  | tc =>
    obtain ⟨n, hn⟩ := ℓ
    cases n with
    | zero =>
      obtain ⟨t, s⟩ := a
      exact body_tc t s
    | succ n => exact absurd hn (by simp)
  | scScalar x => exact body_scScalar x ℓ a
  | scVector x y => exact body_scVector x y ℓ a

/-- … and so are their tables with the pipelines'. -/
theorem defs_eq : Cert.Kernel.defs (F := Bits) = Cert.KernelIdeal.defs (F := Bits) := by
  have h : ∀ D, Cert.Kernel.defs₀ (F := Bits) = D → Cert.Kernel.defs (F := Bits) = Pipeline.defs (Cert.Kernel.pcfgs (F := Bits)) D := fun D e => by
    rw [← e]
    rfl
  exact h _ bodies_eq

/-- … and their host programs. -/
theorem main_eq : Cert.Kernel.main (F := Bits) = Cert.KernelIdeal.main (F := Bits) := rfl

/-- The kernel's frame, at the machine's floats. -/
theorem frame : Cert.quiescent_Kernel (hKernel := Cert.Kernel.Gen.facts) := by
  intro m ρ _
  have H := Cert.KernelIdeal.Gen.frame (F := Bits) m ρ
  rw [← defs_eq, ← main_eq] at H
  exact H

end Cert.Same

end
-- ==== Proof.Value.Ladder.lean ====
module

public import Idealize.ShloMosaic.Lib.Pointwise

@[expose] public section

noncomputable section

/-! The exponent by bisection, over the extended reals: what each step does to a positive real's mantissa and
exponent, where the fifteen steps end, and the powers of two made from their exponent fields. -/

namespace Cert.Ladder

open Idealize.ShloMosaic

/-- A power of two as an extended real. -/
def pow2 (n : ℤ) : EReal := (((2 : ℝ) ^ n : ℝ) : EReal)

theorem pow2_zero : pow2 0 = 1 := by simp [pow2]

theorem pow2_mul (a b : ℤ) : pow2 a * pow2 b = pow2 (a + b) := by
  rw [pow2, pow2, pow2, ← EReal.coe_mul, zpow_add₀ (by norm_num)]

/-- The base-two exponential at an integer is the power of two. -/
theorem exp2_int (n : ℤ) : Ideal.exp2 (((n : ℤ) : ℝ) : EReal) = pow2 n := by
  rw [Ideal.exp2_coe, pow2]
  exact congrArg _ (Real.rpow_intCast 2 n)

theorem ofInt_sub (a b : ℤ) : BitVec.ofInt 32 (a - b) = BitVec.ofInt 32 a - BitVec.ofInt 32 b := by
  rw [Int.sub_eq_add_neg, BitVec.ofInt_add, BitVec.ofInt_neg, BitVec.sub_eq_add_neg]

/-- The f32 whose exponent field is `n` and whose other fields are zero is `2 ^ (n - 127)`, for every normal exponent. -/
theorem ofBits_field (b : BitVec 32) (n : ℕ) (h0 : 1 ≤ n) (h1 : n ≤ 254) (hneg : b.extractLsb' 31 1 = 0#1)
    (hex : (b.extractLsb' 23 8).toNat = n) (hfr : (b.extractLsb' 0 23).toNat = 0) :
    Ideal.ofBits .f32 b = pow2 ((n : ℤ) - 127) := by
  have h23 : ((2 ^ 23 + 0 : ℕ) : ℝ) = (2 : ℝ) ^ (23 : ℤ) := by norm_num
  have hb : ((0#1 : BitVec 1) == 1#1) = false := by decide
  have he : ((n : ℤ) - 127 : ℤ) = 23 + ((n : ℤ) - (2 ^ (8 - 1) - 1) - ((23 : ℕ) : ℤ)) := by norm_num
  rw [he, pow2, zpow_add₀ (by norm_num)]
  simp only [Ideal.ofBits, Ideal.ieee, hneg, hex, hfr, hb, h23]
  rw [if_neg (by omega), if_neg (by omega)]
  simp

/-- A power of two's exponent field, shifted into place. -/
theorem shl_field (n : ℤ) (h0 : -126 ≤ n) (h1 : n ≤ 127) :
    Ideal.ofBits .f32 (IntOp.shli .vector (IntOp.addi (BitVec.ofInt 32 n) 127#32) 23#32) = pow2 n := by
  obtain ⟨k, hk⟩ : ∃ k : ℕ, n + 127 = k := ⟨(n + 127).toNat, by omega⟩
  have h : IntOp.addi (BitVec.ofInt 32 n) 127#32 = BitVec.ofNat 32 k := by
    show BitVec.ofInt 32 n + BitVec.ofInt 32 127 = _
    rw [← BitVec.ofInt_add, hk]
    rfl
  have h' : IntOp.shli .vector (BitVec.ofNat 32 k) 23#32 = BitVec.ofNat 32 k <<< (23 : ℕ) := by
    unfold IntOp.shli
    rw [if_pos (by decide)]
    rfl
  have ht : (BitVec.ofNat 32 k <<< (23 : ℕ)).toNat = k * 8388608 := by
    rw [BitVec.toNat_shiftLeft, BitVec.toNat_ofNat, Nat.shiftLeft_eq]
    omega
  have e1 : (BitVec.ofNat 32 k <<< (23 : ℕ)).extractLsb' 31 1 = 0#1 := by
    apply BitVec.eq_of_toNat_eq
    rw [BitVec.extractLsb'_toNat, ht, Nat.shiftRight_eq_div_pow, BitVec.toNat_ofNat]
    omega
  have e2 : ((BitVec.ofNat 32 k <<< (23 : ℕ)).extractLsb' 23 8).toNat = k := by
    rw [BitVec.extractLsb'_toNat, ht, Nat.shiftRight_eq_div_pow]
    omega
  have e3 : ((BitVec.ofNat 32 k <<< (23 : ℕ)).extractLsb' 0 23).toNat = 0 := by
    rw [BitVec.extractLsb'_toNat, ht, Nat.shiftRight_eq_div_pow]
    omega
  have hn : ((k : ℤ) - 127) = n := by omega
  rw [h, h', ← hn]
  generalize BitVec.ofNat 32 k <<< (23 : ℕ) = b at e1 e2 e3
  exact ofBits_field b k (by omega) (by omega) e1 e2 e3

theorem shr_half (n : ℤ) (h0 : -1000 ≤ n) (h1 : n ≤ 1000) :
    IntOp.shrsi .vector (BitVec.ofInt 32 n) 1#32 = BitVec.ofInt 32 (n / 2) := by
  unfold IntOp.shrsi
  rw [if_pos (by decide)]
  apply BitVec.eq_of_toInt_eq
  rw [BitVec.toInt_sshiftRight', BitVec.toInt_ofInt_eq_self (by decide) (by norm_num; omega) (by norm_num; omega),
    BitVec.toInt_ofInt_eq_self (by decide) (by norm_num; omega) (by norm_num; omega), Int.shiftRight_eq_div_pow]
  rfl

/-- The product of the two half powers made from exponent fields is the power of two. -/
theorem ldexp_one (n : ℤ) (h0 : -150 ≤ n) (h1 : n ≤ 150) :
    Ideal.ofBits .f32 (IntOp.shli .vector (IntOp.addi (IntOp.shrsi .vector (BitVec.ofInt 32 n) 1#32) 127#32) 23#32)
      * Ideal.ofBits .f32 (IntOp.shli .vector (IntOp.addi (IntOp.subi (BitVec.ofInt 32 n) (IntOp.shrsi .vector (BitVec.ofInt 32 n) 1#32)) 127#32) 23#32)
      = pow2 n := by
  rw [shr_half n (by omega) (by omega)]
  have h : IntOp.subi (BitVec.ofInt 32 n) (BitVec.ofInt 32 (n / 2)) = BitVec.ofInt 32 (n - n / 2) := (ofInt_sub _ _).symm
  rw [h, shl_field _ (by omega) (by omega), shl_field _ (by omega) (by omega), pow2_mul]
  congr 1
  omega

/-! ### The steps -/

/-- A step up by `k`: what it does to the exponent, for a real whose floor logarithm is `L`. -/
def up (L k ε : ℤ) : ℤ := if k + ε ≤ L then ε + k else ε
/-- A step down by `k`. -/
def down (L k ε : ℤ) : ℤ := if L ≤ ε - k then ε - k else ε

/-- The mantissa left when `ρ` has given up the exponent `ε`. -/
def mant (ρ : ℝ) (ε : ℤ) : EReal := ((ρ * (2 : ℝ) ^ (-ε) : ℝ) : EReal)

theorem mant_mul (ρ : ℝ) (ε k : ℤ) : mant ρ ε * pow2 (-k) = mant ρ (ε + k) := by
  rw [mant, pow2, mant, ← EReal.coe_mul, mul_assoc, ← zpow_add₀ (by norm_num : (2 : ℝ) ≠ 0)]
  congr 3
  omega

/-- `L` is the floor of the real's base-two logarithm. -/
def IsLog (ρ : ℝ) (L : ℤ) : Prop := (2 : ℝ) ^ L ≤ ρ ∧ ρ < (2 : ℝ) ^ (L + 1)

theorem exists_isLog {ρ : ℝ} (hρ : 0 < ρ) : ∃ L, IsLog ρ L := by
  obtain ⟨n, hn⟩ := exists_mem_Ico_zpow hρ (by norm_num : (1 : ℝ) < 2)
  exact ⟨n, hn.1, hn.2⟩

theorem IsLog.zpow_le_iff {ρ : ℝ} {L : ℤ} (h : IsLog ρ L) (n : ℤ) : (2 : ℝ) ^ n ≤ ρ ↔ n ≤ L := by
  constructor
  · intro h'
    have := (zpow_lt_zpow_iff_right₀ (by norm_num : (1 : ℝ) < 2)).mp (lt_of_le_of_lt h' h.2)
    omega
  · intro h'
    exact le_trans (zpow_le_zpow_right₀ (by norm_num) h') h.1

theorem pow2_le_mant {ρ : ℝ} {L : ℤ} (hρ : IsLog ρ L) (ε k : ℤ) : pow2 k ≤ mant ρ ε ↔ k + ε ≤ L := by
  rw [mant, pow2, EReal.coe_le_coe_iff, ← hρ.zpow_le_iff, zpow_neg, ← div_eq_mul_inv,
    le_div_iff₀ (by positivity), zpow_add₀ (by norm_num : (2 : ℝ) ≠ 0)]

variable {S : Shape} {ρ : ℝ} {L ε k : ℤ} {m c c' : FVec Ideal S .f32} {e kk : IVec S 32} {j : S.Idx}

theorem up_bit (hρ : IsLog ρ L) (hm : m j = mant ρ ε) (hc : c j = pow2 k) :
    cmpf .oge m c j = BitVec.ofBool (decide (k + ε ≤ L)) := by
  show BitVec.ofBool (decide (c j ≤ m j)) = _
  rw [hm, hc]
  exact congrArg BitVec.ofBool (decide_eq_decide.mpr (pow2_le_mant hρ ε k))

theorem down_bit (hρ : IsLog ρ L) (hm : m j = mant ρ ε) (hc : c j = pow2 (1 - k)) :
    cmpf .olt m c j = BitVec.ofBool (decide (L ≤ ε - k)) := by
  show BitVec.ofBool (decide (m j < c j)) = _
  rw [hm, hc]
  refine congrArg BitVec.ofBool (decide_eq_decide.mpr ?_)
  rw [← not_le, pow2_le_mant hρ]
  omega

theorem select_bool {α : Type} (p : Prop) [Decidable p] (x y : α) :
    Scalar.select (BitVec.ofBool (decide p)) x y = if p then x else y := by
  by_cases h : p <;> simp [Scalar.select, h]

theorem up_m (hρ : IsLog ρ L) (hm : m j = mant ρ ε) (hc : c j = pow2 k) (hc' : c' j = pow2 (-k)) :
    select (cmpf .oge m c) (mulf m c') m j = mant ρ (up L k ε) := by
  show Scalar.select (cmpf .oge m c j) (m j * c' j) (m j) = _
  rw [up_bit hρ hm hc, select_bool, hm, hc', mant_mul, up]
  split <;> rfl

theorem up_e (hρ : IsLog ρ L) (hm : m j = mant ρ ε) (hc : c j = pow2 k) (he : e j = BitVec.ofInt 32 ε) (hk : kk j = BitVec.ofInt 32 k) :
    select (cmpf .oge m c) (addi e kk) e j = BitVec.ofInt 32 (up L k ε) := by
  show Scalar.select (cmpf .oge m c j) (e j + kk j) (e j) = _
  rw [up_bit hρ hm hc, select_bool, he, hk, ← BitVec.ofInt_add, up]
  split <;> rfl

theorem down_m (hρ : IsLog ρ L) (hm : m j = mant ρ ε) (hc : c j = pow2 (1 - k)) (hc' : c' j = pow2 k) :
    select (cmpf .olt m c) (mulf m c') m j = mant ρ (down L k ε) := by
  show Scalar.select (cmpf .olt m c j) (m j * c' j) (m j) = _
  have h := mant_mul ρ ε (-k)
  rw [neg_neg] at h
  rw [down_bit hρ hm hc, select_bool, hm, hc', h, down]
  split <;> rfl

theorem down_e (hρ : IsLog ρ L) (hm : m j = mant ρ ε) (hc : c j = pow2 (1 - k)) (he : e j = BitVec.ofInt 32 ε) (hk : kk j = BitVec.ofInt 32 k) :
    select (cmpf .olt m c) (subi e kk) e j = BitVec.ofInt 32 (down L k ε) := by
  show Scalar.select (cmpf .olt m c j) (e j - kk j) (e j) = _
  rw [down_bit hρ hm hc, select_bool, he, hk, ← ofInt_sub, down]
  split <;> rfl

/-! ### Where the steps end -/

/-- The exponent after the seven steps up. -/
def ups (L : ℤ) : ℤ := up L 1 (up L 2 (up L 4 (up L 8 (up L 16 (up L 32 (up L 64 0))))))
/-- The exponent after the eight steps down. -/
def downs (L ε : ℤ) : ℤ := down L 1 (down L 2 (down L 4 (down L 8 (down L 16 (down L 32 (down L 64 (down L 22 ε)))))))

theorem ups_eq (L : ℤ) : ups L = if L < 0 then 0 else min L 127 := by
  rcases lt_or_ge L 0 with h | h
  · have hk : ∀ k : ℤ, 0 < k → up L k 0 = 0 := fun k hk => by unfold up; split <;> omega
    unfold ups
    rw [hk 64 (by norm_num), hk 32 (by norm_num), hk 16 (by norm_num), hk 8 (by norm_num), hk 4 (by norm_num), hk 2 (by norm_num),
      hk 1 (by norm_num), if_pos h]
  · rw [if_neg (by omega)]
    rcases le_or_gt L 127 with h' | h'
    · have hs : ∀ k ε : ℤ, 0 < k → ε ≤ L → L < ε + 2 * k → up L k ε ≤ L ∧ L < up L k ε + k := fun k ε hk h1 h2 => by
        unfold up; split <;> omega
      have h1 := hs 64 0 (by norm_num) h (by omega)
      have h2 := hs 32 _ (by norm_num) h1.1 (by omega)
      have h3 := hs 16 _ (by norm_num) h2.1 (by omega)
      have h4 := hs 8 _ (by norm_num) h3.1 (by omega)
      have h5 := hs 4 _ (by norm_num) h4.1 (by omega)
      have h6 := hs 2 _ (by norm_num) h5.1 (by omega)
      have h7 := hs 1 _ (by norm_num) h6.1 (by omega)
      unfold ups
      omega
    · have hs : ∀ k ε : ℤ, k + ε ≤ 127 → up L k ε = ε + k := fun k ε hk => by unfold up; rw [if_pos (by omega)]
      unfold ups
      rw [hs 64 0 (by norm_num), hs 32 _ (by norm_num), hs 16 _ (by norm_num), hs 8 _ (by norm_num), hs 4 _ (by norm_num),
        hs 2 _ (by norm_num), hs 1 _ (by norm_num)]
      omega

/-- The fifteen steps end at the floor logarithm, kept within `[-149, 127]`. -/
theorem ladder_eq (L : ℤ) : downs L (ups L) = max (-149) (min L 127) := by
  rw [ups_eq]
  rcases lt_or_ge L 0 with h | h
  · rw [if_pos h]
    rcases lt_or_ge L (-149) with h' | h'
    · have hs : ∀ k ε : ℤ, -149 ≤ ε - k → down L k ε = ε - k := fun k ε hk => by unfold down; rw [if_pos (by omega)]
      unfold downs
      rw [hs 22 0 (by norm_num), hs 64 _ (by norm_num), hs 32 _ (by norm_num), hs 16 _ (by norm_num), hs 8 _ (by norm_num), hs 4 _ (by norm_num),
        hs 2 _ (by norm_num), hs 1 _ (by norm_num)]
      omega
    · have hs : ∀ k ε : ℤ, 0 < k → L ≤ ε → ε < L + 2 * k → L ≤ down L k ε ∧ down L k ε < L + k := fun k ε hk h1 h2 => by
        unfold down; split <;> omega
      have h0 : L ≤ down L 22 0 ∧ down L 22 0 < L + 128 := by unfold down; split <;> omega
      have h1 := hs 64 _ (by norm_num) h0.1 (by omega)
      have h2 := hs 32 _ (by norm_num) h1.1 (by omega)
      have h3 := hs 16 _ (by norm_num) h2.1 (by omega)
      have h4 := hs 8 _ (by norm_num) h3.1 (by omega)
      have h5 := hs 4 _ (by norm_num) h4.1 (by omega)
      have h6 := hs 2 _ (by norm_num) h5.1 (by omega)
      have h7 := hs 1 _ (by norm_num) h6.1 (by omega)
      unfold downs
      omega
  · rw [if_neg (by omega)]
    have hs : ∀ k : ℤ, 0 < k → down L k (min L 127) = min L 127 := fun k hk => by unfold down; rw [if_neg (by omega)]
    unfold downs
    rw [hs 22 (by norm_num), hs 64 (by norm_num), hs 32 (by norm_num), hs 16 (by norm_num), hs 8 (by norm_num), hs 4 (by norm_num), hs 2 (by norm_num),
      hs 1 (by norm_num)]
    omega

/-! ### The exponent as a count -/

/-- The exponent of a row scaled to `a`: how many powers of two from `2 ^ (-148)` up to `2 ^ 127` are at most `a`, less
148; zero where `a` is zero or infinite. -/
def expo (a : EReal) : ℤ :=
  if a = 0 ∨ a = ⊤ then 0 else (((Finset.univ : Finset (Fin 276)).filter fun k => pow2 ((k.val : ℤ) - 148) ≤ a).card : ℤ) - 148

theorem expo_range (a : EReal) : -148 ≤ expo a ∧ expo a ≤ 128 := by
  unfold expo
  split
  · omega
  · have h := Finset.card_filter_le (Finset.univ : Finset (Fin 276)) fun k => pow2 ((k.val : ℤ) - 148) ≤ a
    rw [Finset.card_univ, Fintype.card_fin] at h
    omega

theorem card_le (M : ℤ) (h0 : -149 ≤ M) (h1 : M ≤ 127) :
    (((Finset.univ : Finset (Fin 276)).filter fun k => ((k.val : ℤ) - 148) ≤ M).card : ℤ) = M + 149 := by
  obtain ⟨n, hn⟩ : ∃ n : ℕ, M + 149 = n := ⟨(M + 149).toNat, by omega⟩
  have h : ((Finset.univ : Finset (Fin 276)).filter fun k => ((k.val : ℤ) - 148) ≤ M) = (Finset.univ : Finset (Fin 276)).filter fun k => k.val < n := by
    apply Finset.filter_congr
    intro k _
    omega
  rw [h, hn, Fin.card_filter_val_lt]
  omega

/-- For a positive real the bisection's exponent, plus one, is the count. -/
theorem expo_real (hρ : 0 < ρ) (hL : IsLog ρ L) : expo (ρ : EReal) = downs L (ups L) + 1 := by
  rw [ladder_eq]
  unfold expo
  rw [if_neg (by rintro (h | h); · exact hρ.ne' (EReal.coe_eq_zero.mp h)
                 · exact EReal.coe_ne_top _ h)]
  have h : ((Finset.univ : Finset (Fin 276)).filter fun k => pow2 ((k.val : ℤ) - 148) ≤ (ρ : EReal))
      = (Finset.univ : Finset (Fin 276)).filter fun k => ((k.val : ℤ) - 148) ≤ max (-149) (min L 127) := by
    apply Finset.filter_congr
    intro k _
    rw [pow2, EReal.coe_le_coe_iff]
    rw [hL.zpow_le_iff]
    omega
  rw [h, card_le _ (by omega) (by omega)]
  omega

end Cert.Ladder

end
-- ==== Proof.Value.Spec.lean ====
module

public import proofs.«01_k».proof.Proof.Value.Ladder

@[expose] public section

noncomputable section

/-! What a row of the layer computes, over the extended reals: the normalised row, its power-of-two scale, its codes,
the product with the weights and the rotation of a head. Both programs are read as these functions. -/

namespace Cert.Spec

open Idealize.ShloMosaic Cert.Ladder

/-- The normalised row: each element over the root mean square, times the gain. -/
def hRow (x g : Fin 4096 → EReal) (d : Fin 4096) : EReal :=
  x d * Ideal.rsqrt (Ideal.div (∑ k, x k * x k) (Ideal.ofBits .f32 0x45800000#32) + Ideal.ofBits .f32 0x358637BD#32) * g d

/-- The largest magnitude of a row. -/
def amaxRow (h : Fin 4096 → EReal) : EReal :=
  Finset.fold max (Ideal.ofBits .f32 0xFF800000#32) (fun d => max (h d) (-(h d))) Finset.univ

/-- The exponent of a row's scale. -/
def expoRow (h : Fin 4096 → EReal) : ℤ := expo (amaxRow h * Ideal.ofBits .f32 0x3B124925#32)

/-- A row's scale. -/
def scaleRow (x g : Fin 4096 → EReal) : EReal := pow2 (expoRow (hRow x g))

/-- A row's codes. -/
def codeRow (x g : Fin 4096 → EReal) (d : Fin 4096) : EReal :=
  min (Ideal.ofBits .f32 0x43E00000#32) (max (Ideal.ofBits .f32 0xC3E00000#32) (hRow x g d * pow2 (-expoRow (hRow x g))))

/-- One element of the product: the codes against a weight column, at both scales. -/
def dotRow (x g w : Fin 4096 → EReal) (s : EReal) : EReal := (∑ k, codeRow x g k * w k) * scaleRow x g * s

/-- The rotation of one head's element: `y` the head's 128 elements, `p` the position, `f` the 64 frequencies. -/
def rope (y : Fin 128 → EReal) (p : BitVec 32) (f : Fin 64 → EReal) (d : Fin 128) : EReal :=
  if h : d.val < 64 then
    y d * Ideal.cos ((((p.toInt : ℝ)) : EReal) * f ⟨d.val, h⟩) - y ⟨d.val + 64, by omega⟩ * Ideal.sin ((((p.toInt : ℝ)) : EReal) * f ⟨d.val, h⟩)
  else
    y d * Ideal.cos ((((p.toInt : ℝ)) : EReal) * f ⟨d.val - 64, by omega⟩)
      + y ⟨d.val - 64, by omega⟩ * Ideal.sin ((((p.toInt : ℝ)) : EReal) * f ⟨d.val - 64, by omega⟩)

/-- A printed constant that is a power of two. -/
theorem const (b : BitVec 32) (n : ℤ)
    (h : b.extractLsb' 31 1 = 0#1 ∧ ((b.extractLsb' 23 8).toNat : ℤ) = n + 127 ∧ (b.extractLsb' 0 23).toNat = 0 ∧ -126 ≤ n ∧ n ≤ 127) :
    Ideal.ofBits .f32 b = pow2 n := by
  obtain ⟨h1, h2, h3, h4, h5⟩ := h
  rw [ofBits_field b _ (by omega) (by omega) h1 rfl h3]
  congr 1
  omega

theorem ofBits_inf : Ideal.ofBits .f32 0x7F800000#32 = ⊤ := by simp [Ideal.ofBits, Ideal.ieee]

/-- The scale factor 1/448 as printed: a positive real. -/
theorem ofBits_inv448 : ∃ r : ℝ, 0 < r ∧ Ideal.ofBits .f32 0x3B124925#32 = (r : EReal) := by
  refine ⟨9586981 * (2 : ℝ) ^ (-32 : ℤ), by positivity, ?_⟩
  simp [Ideal.ofBits, Ideal.ieee, -EReal.coe_mul]

theorem max_neg_nonneg (a : EReal) : 0 ≤ max a (-a) := by
  rcases le_total 0 a with h | h
  · exact le_trans h (le_max_left _ _)
  · exact le_trans (EReal.neg_le_neg_iff.mpr h |>.trans' (by simp)) (le_max_right _ _)

theorem amaxRow_nonneg (h : Fin 4096 → EReal) : 0 ≤ amaxRow h := by
  unfold amaxRow
  exact (Finset.le_fold_max 0).mpr (Or.inr ⟨0, Finset.mem_univ _, max_neg_nonneg _⟩)

theorem scaled_cases (M : EReal) (hM : 0 ≤ M) :
    (M * Ideal.ofBits .f32 0x3B124925#32 = 0 ∧ M = 0) ∨ (M * Ideal.ofBits .f32 0x3B124925#32 = ⊤ ∧ M ≠ 0)
      ∨ ∃ ρ : ℝ, 0 < ρ ∧ M * Ideal.ofBits .f32 0x3B124925#32 = (ρ : EReal) ∧ M ≠ 0 := by
  obtain ⟨r, hr, he⟩ := ofBits_inv448
  rw [he]
  induction M with
  | bot => exact absurd hM (by simp)
  | top => exact Or.inr (Or.inl ⟨EReal.top_mul_coe_of_pos hr, by simp⟩)
  | coe m =>
    have hm : 0 ≤ m := EReal.coe_nonneg.mp hM
    rcases hm.eq_or_lt with h | h
    · exact Or.inl ⟨by rw [← h]; simp, by rw [← h]; rfl⟩
    · exact Or.inr (Or.inr ⟨m * r, mul_pos h hr, (EReal.coe_mul m r).symm, by simpa using h.ne'⟩)

end Cert.Spec

end
-- ==== Proof.Value.CaseD.lean ====
module

public import proofs.«01_k».proof.Proof.Region.Blocks
public import Idealize.ShloMosaic.Lib.Pipeline.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (arg2 : Memref sig .tc .vmem S1024x4096 .bf16) (harg2 : arg2.IsWhole) (arg3 : Memref sig .tc .vmem S1x4096 .f32) (harg3 : arg3.IsWhole)
  (arg4 : Memref sig .tc .vmem S4096x1024 .fp8e4m3) (harg4 : arg4.IsWhole) (arg5 : Memref sig .tc .vmem S1x1024 .f32) (harg5 : arg5.IsWhole)
  (arg6 : Memref sig .tc .vmem S1024x1 .i32) (harg6 : arg6.IsWhole) (arg7 : Memref sig .tc .vmem S1x128 .f32) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x4096 .fp8e4m3) (harg11 : arg11.IsWhole)
  (arg12 : Memref sig .tc .vmem S1024x1 .f32) (harg12 : arg12.IsWhole) (arg13 : Memref sig .tc .vmem S1024x128 .f32) (harg13 : arg13.IsWhole)
  (arg14 : Memref sig .tc .vmem S1024x128 .f32) (harg14 : arg14.IsWhole)
  (x0 : Vec F S1024x4096 .bf16) (x1 : Vec F S1x4096 .f32) (x2 : Vec F S4096x1024 .fp8e4m3) (x3 : Vec F S1x1024 .f32) (x4 : Vec F S1024x1 .i32) (x5 : Vec F S1x128 .f32)

/-- What a point of the third kind (the values) leaves in the v block: one product over its whole staging buffers. -/
theorem out_D (hc0 : ¬cond0_0 i) (hc1 : ¬cond0_1 i) (hc2 : ¬cond0_2 i) (hc3 : cond0_3 i)
    (xo6 : Vec F S1024x1024 .bf16) (xo7 : Vec F S1024x1024 .bf16) (xo9 : Vec F S1024x4096 .fp8e4m3) (xo10 : Vec F S1024x1 .f32) (xs0 : Vec F S1024x128 .f32) (xs1 : Vec F S1024x128 .f32) :
    out0_D_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6 xo7 xo9 xo10 xs0 xs1
      = k0_pay15 xo9 x2 xo10 x3 := by
  unfold out0_D_8
  rw [View.read_writes_eq_canon _ _ _ (cover0_D_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6 xo7 xo9 xo10 xs0 xs1)]
  unfold kernelRun0_D
  dsimp only
  sl_unfold_words
  rw [View.canon_unit_zero hz]
  simp only [View.readAt_eq_ld, harg4.read_unread, harg5.read_unread, harg11.read_unread, harg12.read_unread, View.ld_unit_zero (S := S1024x4096) hz, View.ld_unit_zero (S := S4096x1024) hz, View.ld_unit_zero (S := S1024x1) hz, View.ld_unit_zero (S := S1x1024) hz]

end Cert.KernelIdeal.Value

end
-- ==== Proof.Value.Quant.lean ====
module

public import proofs.«01_k».proof.Proof.Value.Spec
public import proofs.«01_k».proof.Proof.Value.CaseD

@[expose] public section

set_option maxRecDepth 16384

noncomputable section

/-! The kernel's quantiser, one chunk of 128 rows: what each payload holds at a row, as the row functions. -/

namespace Cert.KernelIdeal.Value

open Cert.KernelIdeal Cert.KernelIdeal.Gen Cert.Ladder Cert.Spec Idealize.ShloMosaic Idealize.ShloMosaic.TcCoe Idealize.SL.Sem

theorem pay16_apply (X : Vec Ideal S128x4096 .bf16) (G : Vec Ideal S1x4096 .f32) (r : Fin 128) (d : Fin 4096) :
    k0_pay16 X G (ix2 r d) = hRow (fun k => X (ix2 r k)) (fun k => G (ix2 0 k)) d := by
  pointwise [k0_pay16]
  rfl

theorem pay17_apply (X : Vec Ideal S128x4096 .bf16) (G : Vec Ideal S1x4096 .f32) (r : Fin 128) :
    k0_pay17 X G (ix2 r 0) = amaxRow (hRow (fun k => X (ix2 r k)) (fun k => G (ix2 0 k))) := by
  have h : (fun d => k0_pay16 X G (ix2 r d)) = hRow (fun k => X (ix2 r k)) (fun k => G (ix2 0 k)) := funext fun d => pay16_apply X G r d
  rw [← h]
  unfold k0_pay17
  generalize k0_pay16 X G = H
  pointwise
  rfl

theorem pay18_apply (X : Vec Ideal S128x4096 .bf16) (G : Vec Ideal S1x4096 .f32) (r : Fin 128) :
    k0_pay18 X G (ix2 r 0) = k0_pay17 X G (ix2 r 0) * Ideal.ofBits .f32 0x3B124925#32 := rfl

theorem bconst (j : S128x1.Idx) (b : BitVec 32) (n : ℤ)
    (h : b.extractLsb' 31 1 = 0#1 ∧ ((b.extractLsb' 23 8).toNat : ℤ) = n + 127 ∧ (b.extractLsb' 0 23).toNat = 0 ∧ -126 ≤ n ∧ n ≤ 127) :
    (broadcast S128x1 (Scalar.ofBits .f32 b : Ideal .f32) : FVec Ideal S128x1 .f32) j = pow2 n := const b n h

variable {ρ : ℝ} {L ε : ℤ} {j : S128x1.Idx}

/-- The first two steps. -/
theorem steps_a (X : Vec Ideal S128x4096 .bf16) (G : Vec Ideal S1x4096 .f32) (hρ : IsLog ρ L) (h : k0_pay18 X G j = (ρ : EReal)) :
    k0_pay22 X G j = mant ρ (up L 32 (up L 64 0)) ∧ k0_pay23 X G j = BitVec.ofInt 32 (up L 32 (up L 64 0)) := by
  have h0 : k0_pay18 X G j = mant ρ 0 := by rw [h, mant]; simp
  have c1 := bconst j 0x5F800000#32 64 (by decide)
  have d1 := bconst j 0x1F800000#32 (-64) (by decide)
  have c2 := bconst j 0x4F800000#32 32 (by decide)
  have d2 := bconst j 0x2F800000#32 (-32) (by decide)
  have m1 : k0_pay20 X G j = _ := up_m hρ h0 c1 d1
  have e1 := up_e (e := broadcast S128x1 0#32) (kk := broadcast S128x1 64#32) hρ h0 c1 rfl rfl
  exact ⟨up_m hρ m1 c2 d2, up_e (kk := broadcast S128x1 32#32) hρ m1 c2 e1 rfl⟩

/-- The five steps after them, and the first step down. -/
theorem steps_b (m : FVec Ideal S128x1 .f32) (e : IVec S128x1 32) (hρ : IsLog ρ L) (hm : m j = mant ρ ε) (he : e j = BitVec.ofInt 32 ε) :
    k0_pay34 m k0_pay24 j = mant ρ (up L 1 (up L 2 (up L 4 (up L 8 (up L 16 ε)))))
      ∧ k0_pay37 m k0_pay24 j = mant ρ (down L 22 (up L 1 (up L 2 (up L 4 (up L 8 (up L 16 ε))))))
      ∧ k0_pay35 m e k0_pay24 j = BitVec.ofInt 32 (up L 1 (up L 2 (up L 4 (up L 8 (up L 16 ε))))) := by
  have c1 : (k0_pay24 : FVec Ideal S128x1 .f32) j = pow2 16 := bconst j 0x47800000#32 16 (by decide)
  have d1 := bconst j 0x37800000#32 (-16) (by decide)
  have c2 := bconst j 0x43800000#32 8 (by decide)
  have d2 := bconst j 0x3B800000#32 (-8) (by decide)
  have c3 := bconst j 0x41800000#32 4 (by decide)
  have d3 := bconst j 0x3D800000#32 (-4) (by decide)
  have c4 := bconst j 0x40800000#32 2 (by decide)
  have d4 := bconst j 0x3E800000#32 (-2) (by decide)
  have c5 := bconst j 0x40000000#32 1 (by decide)
  have d5 := bconst j 0x3F000000#32 (-1) (by decide)
  have c6 := bconst j 0x35000000#32 (1 - 22) (by decide)
  have d6 := bconst j 0x4A800000#32 22 (by decide)
  have m1 : k0_pay26 m k0_pay24 j = _ := up_m hρ hm c1 d1
  have m2 : k0_pay28 m k0_pay24 j = _ := up_m hρ m1 c2 d2
  have m3 : k0_pay30 m k0_pay24 j = _ := up_m hρ m2 c3 d3
  have m4 : k0_pay32 m k0_pay24 j = _ := up_m hρ m3 c4 d4
  have m5 : k0_pay34 m k0_pay24 j = _ := up_m hρ m4 c5 d5
  have e1 := up_e (kk := broadcast S128x1 16#32) hρ hm c1 he rfl
  have e2 := up_e (kk := broadcast S128x1 8#32) hρ m1 c2 e1 rfl
  have e3 := up_e (kk := broadcast S128x1 4#32) hρ m2 c3 e2 rfl
  have e4 := up_e (kk := broadcast S128x1 2#32) hρ m3 c4 e3 rfl
  exact ⟨m5, down_m hρ m5 c6 d6, up_e (kk := broadcast S128x1 1#32) hρ m4 c5 e4 rfl⟩

/-- The next steps down. -/
theorem steps_c (m : FVec Ideal S128x1 .f32) (e : IVec S128x1 32) (b : IVec S128x1 1) (hρ : IsLog ρ L)
    (hm : m j = mant ρ (down L 22 ε)) (he : select b (subi e (broadcast S128x1 22#32)) e j = BitVec.ofInt 32 (down L 22 ε)) :
    k0_pay47 m j = mant ρ (down L 4 (down L 8 (down L 16 (down L 32 (down L 64 (down L 22 ε))))))
      ∧ k0_pay48 e b m j = BitVec.ofInt 32 (down L 4 (down L 8 (down L 16 (down L 32 (down L 64 (down L 22 ε)))))) := by
  have c1 := bconst j 0x20000000#32 (1 - 64) (by decide)
  have d1 := bconst j 0x5F800000#32 64 (by decide)
  have c2 := bconst j 0x30000000#32 (1 - 32) (by decide)
  have d2 := bconst j 0x4F800000#32 32 (by decide)
  have c3 := bconst j 0x38000000#32 (1 - 16) (by decide)
  have d3 := bconst j 0x47800000#32 16 (by decide)
  have c4 := bconst j 0x3C000000#32 (1 - 8) (by decide)
  have d4 := bconst j 0x43800000#32 8 (by decide)
  have c5 := bconst j 0x3E000000#32 (1 - 4) (by decide)
  have d5 := bconst j 0x41800000#32 4 (by decide)
  have m1 : k0_pay39 m j = _ := down_m hρ hm c1 d1
  have m2 : k0_pay41 m j = _ := down_m hρ m1 c2 d2
  have m3 : k0_pay43 m j = _ := down_m hρ m2 c3 d3
  have m4 : k0_pay45 m j = _ := down_m hρ m3 c4 d4
  have e1 := down_e (kk := broadcast S128x1 64#32) hρ hm c1 he rfl
  have e2 := down_e (kk := broadcast S128x1 32#32) hρ m1 c2 e1 rfl
  have e3 := down_e (kk := broadcast S128x1 16#32) hρ m2 c3 e2 rfl
  have e4 := down_e (kk := broadcast S128x1 8#32) hρ m3 c4 e3 rfl
  exact ⟨down_m hρ m4 c5 d5, down_e (kk := broadcast S128x1 4#32) hρ m4 c5 e4 rfl⟩

/-- The last two steps and the selections, for a scaled maximum that is a positive real. -/
theorem steps_d (M a m : FVec Ideal S128x1 .f32) (e : IVec S128x1 32) (hρ : IsLog ρ L) (hρ0 : 0 < ρ)
    (hM : M j ≠ 0) (ha : a j = (ρ : EReal)) (hm : m j = mant ρ ε) (he : e j = BitVec.ofInt 32 ε) :
    k0_pay49 M a m e (FloatOps.ofBits .f32 0x3F000000#32) j = BitVec.ofInt 32 (down L 1 (down L 2 ε) + 1) := by
  have c1 := bconst j 0x3F000000#32 (1 - 2) (by decide)
  have d1 := bconst j 0x40800000#32 2 (by decide)
  have c2 := bconst j 0x3F800000#32 (1 - 1) (by decide)
  have m1 := down_m hρ hm c1 d1
  have e1 := down_e (kk := broadcast S128x1 2#32) hρ hm c1 he rfl
  have e2 := down_e (kk := broadcast S128x1 1#32) hρ m1 c2 e1 rfl
  have hz : Ideal.ofBits .f32 0x00000000#32 = 0 := Ideal.ofBits_zero_f32
  have b1 : FloatOps.cmpf (F := Ideal) (φ := .f32) .oeq (M j) (Ideal.ofBits .f32 0x00000000#32) = 0#1 := by
    show BitVec.ofBool (decide (_ = _)) = _
    rw [hz, decide_eq_false hM]; rfl
  have b2 : FloatOps.cmpf (F := Ideal) (φ := .f32) .ogt (a j) (Ideal.ofBits .f32 0x00000000#32) = 1#1 := by
    show BitVec.ofBool (decide (_ < _)) = _
    rw [hz, ha, decide_eq_true (EReal.coe_pos.mpr hρ0)]; rfl
  have b3 : FloatOps.cmpf (F := Ideal) (φ := .f32) .olt (a j) (Ideal.ofBits .f32 0x7F800000#32) = 1#1 := by
    show BitVec.ofBool (decide (_ < _)) = _
    rw [ofBits_inf, ha, decide_eq_true (EReal.coe_lt_top _)]; rfl
  rw [BitVec.ofInt_add, ← e2]
  show Scalar.select (FloatOps.cmpf (F := Ideal) (φ := .f32) .oeq (M j) (Ideal.ofBits .f32 0x00000000#32)) 0#32
      (Scalar.select (IntOp.andi (FloatOps.cmpf (F := Ideal) (φ := .f32) .ogt (a j) (Ideal.ofBits .f32 0x00000000#32))
        (FloatOps.cmpf (F := Ideal) (φ := .f32) .olt (a j) (Ideal.ofBits .f32 0x7F800000#32))) _ 0#32) = _
  rw [b1, b2, b3]
  rfl

/-- The selections where the scaled maximum is zero or infinite. -/
theorem steps_zero (M a m : FVec Ideal S128x1 .f32) (e : IVec S128x1 32) (c : Ideal .f32) (ha : a j = 0 ∨ a j = ⊤) :
    k0_pay49 M a m e c j = 0#32 := by
  have hz : Ideal.ofBits .f32 0x00000000#32 = 0 := Ideal.ofBits_zero_f32
  have hb : IntOp.andi (FloatOps.cmpf (F := Ideal) (φ := .f32) .ogt (a j) (Ideal.ofBits .f32 0x00000000#32))
        (FloatOps.cmpf (F := Ideal) (φ := .f32) .olt (a j) (Ideal.ofBits .f32 0x7F800000#32)) = 0#1 := by
    show IntOp.andi (BitVec.ofBool (decide (_ < _))) (BitVec.ofBool (decide (_ < _))) = _
    rw [hz, ofBits_inf]
    rcases ha with h | h <;> rw [h] <;> simp [IntOp.andi]
  show Scalar.select (FloatOps.cmpf (F := Ideal) (φ := .f32) .oeq (M j) (Ideal.ofBits .f32 0x00000000#32)) 0#32
      (Scalar.select (IntOp.andi (FloatOps.cmpf (F := Ideal) (φ := .f32) .ogt (a j) (Ideal.ofBits .f32 0x00000000#32))
        (FloatOps.cmpf (F := Ideal) (φ := .f32) .olt (a j) (Ideal.ofBits .f32 0x7F800000#32))) _ 0#32) = _
  rw [hb]
  unfold Scalar.select
  split <;> rfl

/-- The exponent the kernel computes for a row. -/
theorem pay49_apply (X : Vec Ideal S128x4096 .bf16) (G : Vec Ideal S1x4096 .f32) (r : Fin 128) :
    k0_pay49 (k0_pay17 X G) (k0_pay18 X G) (k0_pay47 (k0_pay37 (k0_pay22 X G) k0_pay24))
        (k0_pay48 (k0_pay35 (k0_pay22 X G) (k0_pay23 X G) k0_pay24) (k0_pay36 (k0_pay22 X G) k0_pay24) (k0_pay37 (k0_pay22 X G) k0_pay24))
        (FloatOps.ofBits .f32 0x3F000000#32) (ix2 r 0)
      = BitVec.ofInt 32 (expoRow (hRow (fun k => X (ix2 r k)) (fun k => G (ix2 0 k)))) := by
  have h17 := pay17_apply X G r
  have h18 := pay18_apply X G r
  rw [h17] at h18
  unfold expoRow
  rw [← h18]
  rcases scaled_cases _ (amaxRow_nonneg (hRow (fun k => X (ix2 r k)) (fun k => G (ix2 0 k)))) with h | h | ⟨ρ, hρ, h, h0⟩
  · rw [steps_zero _ _ _ _ _ (Or.inl (h18.trans h.1)), expo, if_pos (Or.inl (h18.trans h.1))]; rfl
  · rw [steps_zero _ _ _ _ _ (Or.inr (h18.trans h.1)), expo, if_pos (Or.inr (h18.trans h.1))]; rfl
  · obtain ⟨L, hL⟩ := exists_isLog hρ
    rw [← h18] at h
    rw [h, expo_real hρ hL]
    obtain ⟨a1, a2⟩ := steps_a X G hL h
    obtain ⟨b1, b2, b3⟩ := steps_b _ _ hL a1 a2
    have c6 := bconst (ix2 r 0) 0x35000000#32 (1 - 22) (by decide)
    have b4 := down_e (kk := broadcast S128x1 22#32) hL b1 c6 b3 rfl
    obtain ⟨c1, c2⟩ := steps_c _ _ (k0_pay36 (k0_pay22 X G) k0_pay24) hL b2 b4
    exact steps_d _ _ _ _ hL hρ (by rw [h17]; exact h0) h c1 c2

variable (M a m : FVec Ideal S128x1 .f32) (e : IVec S128x1 32) (c : Ideal .f32)

theorem pay50_apply (r : Fin 128) (n : ℤ) (h0 : -150 ≤ n) (h1 : n ≤ 150) (h : k0_pay49 M a m e c (ix2 r 0) = BitVec.ofInt 32 n) :
    k0_pay50 M a m e c (ix2 r 0) = pow2 n := by
  refine Eq.trans ?_ (ldexp_one n h0 h1)
  rw [← h]
  rfl

theorem pay1_apply (H : FVec Ideal S128x4096 .f32) (E : IVec S128x1 32) (r : Fin 128) (d : Fin 4096) (n : ℤ) (h0 : -150 ≤ n) (h1 : n ≤ 150)
    (h : E (ix2 r 0) = BitVec.ofInt 32 n) :
    k0_pay1 H E 0#32 (ix2 r d) = min (Ideal.ofBits .f32 0x43E00000#32) (max (Ideal.ofBits .f32 0xC3E00000#32) (H (ix2 r d) * pow2 (-n))) := by
  have hn : IntOp.subi 0#32 (E (ix2 r 0)) = BitVec.ofInt 32 (-n) := by
    rw [h]
    show 0#32 - _ = _
    rw [BitVec.ofInt_neg, BitVec.zero_sub]
  rw [← ldexp_one (-n) (by omega) (by omega), ← hn]
  pointwise [k0_pay1]

/-- The codes of a chunk. -/
theorem codes_apply (X : Vec Ideal S128x4096 .bf16) (G : Vec Ideal S1x4096 .f32) (r : Fin 128) (d : Fin 4096) :
    k0_pay1 (k0_pay16 X G) (k0_pay49 (k0_pay17 X G) (k0_pay18 X G) (k0_pay47 (k0_pay37 (k0_pay22 X G) k0_pay24))
        (k0_pay48 (k0_pay35 (k0_pay22 X G) (k0_pay23 X G) k0_pay24) (k0_pay36 (k0_pay22 X G) k0_pay24) (k0_pay37 (k0_pay22 X G) k0_pay24))
        (FloatOps.ofBits .f32 0x3F000000#32)) 0#32 (ix2 r d)
      = codeRow (fun k => X (ix2 r k)) (fun k => G (ix2 0 k)) d := by
  have h := expo_range (amaxRow (hRow (fun k => X (ix2 r k)) (fun k => G (ix2 0 k))) * Ideal.ofBits .f32 0x3B124925#32)
  rw [pay1_apply _ _ r d _ (by unfold expoRow; omega) (by unfold expoRow; omega) (pay49_apply X G r), pay16_apply]
  rfl

/-- The scales of a chunk. -/
theorem scales_apply (X : Vec Ideal S128x4096 .bf16) (G : Vec Ideal S1x4096 .f32) (r : Fin 128) :
    k0_pay50 (k0_pay17 X G) (k0_pay18 X G) (k0_pay47 (k0_pay37 (k0_pay22 X G) k0_pay24))
        (k0_pay48 (k0_pay35 (k0_pay22 X G) (k0_pay23 X G) k0_pay24) (k0_pay36 (k0_pay22 X G) k0_pay24) (k0_pay37 (k0_pay22 X G) k0_pay24))
        (FloatOps.ofBits .f32 0x3F000000#32) (ix2 r 0)
      = scaleRow (fun k => X (ix2 r k)) (fun k => G (ix2 0 k)) := by
  have h := expo_range (amaxRow (hRow (fun k => X (ix2 r k)) (fun k => G (ix2 0 k))) * Ideal.ofBits .f32 0x3B124925#32)
  exact pay50_apply _ _ _ _ _ r _ (by unfold expoRow; omega) (by unfold expoRow; omega) (pay49_apply X G r)

end Cert.KernelIdeal.Value

end
-- ==== Proof.Value.Loop.lean ====
module

public import proofs.«01_k».proof.Proof.Value.Quant

@[expose] public section

set_option maxRecDepth 16384

noncomputable section

/-! The quantiser's loop over the eight chunks of a row block: the stores it has made hold the codes and the scales. -/

namespace Cert.KernelIdeal.Value

open Cert.KernelIdeal Cert.KernelIdeal.Gen Cert.Ladder Cert.Spec Idealize.ShloMosaic Idealize.ShloMosaic.TcCoe Idealize.SL.Sem

/-- The codes of a block of rows. -/
def codesG (x0 : Vec Ideal S1024x4096 .bf16) (x1 : Vec Ideal S1x4096 .f32) : Vec Ideal S1024x4096 .fp8e4m3 :=
  fun y => codeRow (fun k => x0 (ix2 (y 0) k)) (fun k => x1 (ix2 0 k)) (y 1)

/-- The scales of a block of rows. -/
def scalesG (x0 : Vec Ideal S1024x4096 .bf16) (x1 : Vec Ideal S1x4096 .f32) : Vec Ideal S1024x1 .f32 :=
  fun y => scaleRow (fun k => x0 (ix2 (y 0) k)) (fun k => x1 (ix2 0 k))

theorem rows_codes (x0 : Vec Ideal S1024x4096 .bf16) (x1 : Vec Ideal S1x4096 .f32) (off : Nat) (inb) (r : Fin 128) (d : Fin 4096) :
    codeRow (fun k => View.ld x0 (Rect.unit (s := S1024x4096) ![off, 0] ![128, 4096] inb) (ix2 r k)) (fun k => x1 (ix2 0 k)) d
      = codesG x0 x1 ((Rect.unit (s := S1024x4096) ![off, 0] ![128, 4096] inb).emb (ix2 r d)) := by
  have h1 : (Rect.unit (s := S1024x4096) ![off, 0] ![128, 4096] inb).emb (ix2 r d) 1 = d := Fin.ext (by
    show 0 + 1 * d.val = d.val
    omega)
  unfold codesG
  rw [h1]
  refine congrArg (fun f => codeRow f _ d) (funext fun k => ?_)
  refine congrArg x0 (funext fun a => ?_)
  fin_cases a
  · rfl
  · exact Fin.ext (by
      show 0 + 1 * k.val = k.val
      omega)

theorem rows_scales (x0 : Vec Ideal S1024x4096 .bf16) (x1 : Vec Ideal S1x4096 .f32) (off : Nat) (inb) (inb') (r : Fin 128) :
    scaleRow (fun k => View.ld x0 (Rect.unit (s := S1024x4096) ![off, 0] ![128, 4096] inb) (ix2 r k)) (fun k => x1 (ix2 0 k))
      = scalesG x0 x1 ((Rect.unit (s := S1024x1) ![off, 0] ![128, 1] inb').emb (ix2 r 0)) := by
  unfold scalesG
  refine congrArg (fun f => scaleRow f _) (funext fun k => ?_)
  refine congrArg x0 (funext fun a => ?_)
  fin_cases a
  · rfl
  · exact Fin.ext (by
      show 0 + 1 * k.val = k.val
      omega)

variable (c : Dev nD) (i : grid0.Coords)
  (arg2 : Memref sig .tc .vmem S1024x4096 .bf16) (harg2 : arg2.IsWhole) (arg3 : Memref sig .tc .vmem S1x4096 .f32) (harg3 : arg3.IsWhole)
  (arg4 : Memref sig .tc .vmem S4096x1024 .fp8e4m3) (harg4 : arg4.IsWhole) (arg5 : Memref sig .tc .vmem S1x1024 .f32) (harg5 : arg5.IsWhole)
  (arg6 : Memref sig .tc .vmem S1024x1 .i32) (harg6 : arg6.IsWhole) (arg7 : Memref sig .tc .vmem S1x128 .f32) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x4096 .fp8e4m3) (harg11 : arg11.IsWhole)
  (arg12 : Memref sig .tc .vmem S1024x1 .f32) (harg12 : arg12.IsWhole) (arg13 : Memref sig .tc .vmem S1024x128 .f32) (harg13 : arg13.IsWhole)
  (arg14 : Memref sig .tc .vmem S1024x128 .f32) (harg14 : arg14.IsWhole)
  (x0 : Vec Ideal S1024x4096 .bf16) (x1 : Vec Ideal S1x4096 .f32) (x2 : Vec Ideal S4096x1024 .fp8e4m3) (x3 : Vec Ideal S1x1024 .f32) (x4 : Vec Ideal S1024x1 .i32) (x5 : Vec Ideal S1x128 .f32)

/-- One trip's codes. -/
theorem trip_codes (h : k0_cond1 i = 1#1) (k : Fin k0_t1_loop.trips) :
    ∀ p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) k).1,
      ∀ x : p.1.shape.Idx, p.2 x = codesG x0 x1 (p.1.emb x) := by
  unfold trip_k0_t1
  dsimp only
  sl_unfold_words
  simp only [View.readAt_eq_ld, harg2.read_unread, harg3.read_unread, View.ld_unit_zero (S := S1x4096) hz]
  intro p hp
  rw [List.mem_singleton] at hp
  subst hp
  intro x
  dsimp only at x ⊢
  obtain ⟨r, d, rfl⟩ : ∃ (r : Fin 128) (d : Fin 4096), x = ix2 r d := ⟨x 0, x 1, eq_ix2 x⟩
  exact (codes_apply _ x1 r d).trans (rows_codes x0 x1 _ _ r d)

/-- One trip's scales. -/
theorem trip_scales (h : k0_cond1 i = 1#1) (k : Fin k0_t1_loop.trips) :
    ∀ p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) k).2.1,
      ∀ x : p.1.shape.Idx, p.2 x = scalesG x0 x1 (p.1.emb x) := by
  unfold trip_k0_t1
  dsimp only
  sl_unfold_words
  simp only [View.readAt_eq_ld, harg2.read_unread, harg3.read_unread, View.ld_unit_zero (S := S1x4096) hz]
  intro p hp
  rw [List.mem_singleton] at hp
  subst hp
  intro x
  dsimp only at x ⊢
  obtain ⟨r, d, rfl⟩ : ∃ (r : Fin 128) (d : Fin 1), x = ix2 r d := ⟨x 0, x 1, eq_ix2 x⟩
  obtain rfl : d = 0 := Subsingleton.elim _ _
  exact (scales_apply _ x1 r).trans (rows_scales x0 x1 _ _ _ r)

/-- The stores of the trips before `n`: blocks of the codes and of the scales. -/
theorem pb_pieces (h : k0_cond1 i = 1#1) (n : ℕ) (hn : n ≤ k0_t1_loop.trips) :
    (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) n).1,
      ∀ x : p.1.shape.Idx, p.2 x = codesG x0 x1 (p.1.emb x))
    ∧ (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) n).2,
      ∀ x : p.1.shape.Idx, p.2 x = scalesG x0 x1 (p.1.emb x)) := by
  induction n with
  | zero => exact ⟨fun p hp => absurd hp List.not_mem_nil, fun p hp => absurd hp List.not_mem_nil⟩
  | succ n ih =>
    have ih' := ih (by omega)
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) ⟨n, by omega⟩
    rw [e]
    constructor
    · intro p hp
      rcases List.mem_append.mp hp with hp | hp
      · exact trip_codes c i arg2 harg2 arg3 harg3 arg4 harg4 arg5 harg5 arg6 harg6 arg7 harg7 arg8 harg8 arg9 harg9 arg10 harg10 arg11 harg11 arg12 harg12 arg13 harg13 arg14 harg14 x0 x1 h ⟨n, by omega⟩ p hp
      · exact ih'.1 p hp
    · intro p hp
      rcases List.mem_append.mp hp with hp | hp
      · exact trip_scales c i arg2 harg2 arg3 harg3 arg4 harg4 arg5 harg5 arg6 harg6 arg7 harg7 arg8 harg8 arg9 harg9 arg10 harg10 arg11 harg11 arg12 harg12 arg13 harg13 arg14 harg14 x0 x1 h ⟨n, by omega⟩ p hp
      · exact ih'.2 p hp

end Cert.KernelIdeal.Value

end
-- ==== Proof.Value.Heads.lean ====
module

public import proofs.«01_k».proof.Proof.Value.Loop
public import Idealize.ShloMosaic.Lib.Pipeline.ReadBack

@[expose] public section

set_option maxRecDepth 16384

noncomputable section

/-! A block of eight rotated heads: the eight stores of a point are the blocks of one function, and what the points of
the second and third kind (the queries, the keys) leave in their staging buffers. -/

namespace Cert.KernelIdeal.Value

open Cert.KernelIdeal Cert.KernelIdeal.Gen Cert.Ladder Cert.Spec Idealize.ShloMosaic Idealize.ShloMosaic.TcCoe Idealize.SL.Sem

/-- The rotation of every head of a block `Y`, at the cosines `C` and the signed sines `S`. -/
def ropeY (Y : FVec Ideal S1024x1024 .f32) (C S : FVec Ideal S1024x128 .f32) : Vec Ideal S1024x1024 .bf16 := fun y =>
  Y y * C (ix2 (y 0) ⟨(y 1).val % 128, by omega⟩)
    + Y (ix2 (y 0) ⟨(y 1).val / 128 * 128 + ((y 1).val % 128 + 64) % 128, by have : (y 1).val < 1024 := (y 1).isLt; omega⟩) * S (ix2 (y 0) ⟨(y 1).val % 128, by omega⟩)

/-- One head as the kernel writes it: its 128 columns times the cosines, plus the columns rolled by 64 times the sines. -/
def headV (off : Nat) (hs : S1024x1024.Slices ![0, off] S1024x128) (Y : FVec Ideal S1024x1024 .f32) (C S : FVec Ideal S1024x128 .f32) : FVec Ideal S1024x128 .bf16 :=
  truncf .bf16 (addf (mulf (extractStridedSlice S1024x128 ![0, off] Y hs) C)
    (mulf (dynamicRotate 1 64#32 none (extractStridedSlice S1024x128 ![0, off] Y hs) rotates_S1024x128_d1) S)) bitsLt_bf16_f32

theorem headV_apply (off : Nat) (h0 : off % 128 = 0) (hs : S1024x1024.Slices ![0, off] S1024x128) (hoff : off + 128 ≤ 1024) (inb)
    (Y : FVec Ideal S1024x1024 .f32) (C S : FVec Ideal S1024x128 .f32) (x : S1024x128.Idx) :
    headV off hs Y C S x = ropeY Y C S ((Rect.unit (s := S1024x1024) ![0, off] ![1024, 128] inb).emb x) := by
  obtain ⟨r, d, rfl⟩ : ∃ (r : Fin 1024) (d : Fin 128), x = ix2 r d := ⟨x 0, x 1, eq_ix2 x⟩
  have he : (Rect.unit (s := S1024x1024) ![0, off] ![1024, 128] inb).emb (ix2 r d) = ix2 r (⟨off + d.val, by omega⟩ : Fin 1024) := by
    funext a
    fin_cases a
    · exact Fin.ext (by show 0 + 1 * r.val = r.val; omega)
    · exact Fin.ext (by show off + 1 * d.val = off + d.val; omega)
  rw [he]
  have e1 : (off + d.val) % 128 = d.val := by omega
  have e2 : (off + d.val) / 128 * 128 = off := by omega
  unfold ropeY headV
  pointwise
  simp only [e1, e2]
  have e3 : (d.val + 128 - 64) % 128 = (d.val + 64) % 128 := by omega
  simp only [e3]

/-- The eight stores of a point are blocks of the rotation. -/
theorem heads (Y : FVec Ideal S1024x1024 .f32) (C S : FVec Ideal S1024x128 .f32) :
    ∀ p ∈ ([⟨Rect.unit ![0, 896] ![1024, 128] inb_S1024x1024_S1024x128_0_896, headV 896 slices_S1024x1024_o0_896_S1024x128 Y C S⟩,
      ⟨Rect.unit ![0, 768] ![1024, 128] inb_S1024x1024_S1024x128_0_768, headV 768 slices_S1024x1024_o0_768_S1024x128 Y C S⟩,
      ⟨Rect.unit ![0, 640] ![1024, 128] inb_S1024x1024_S1024x128_0_640, headV 640 slices_S1024x1024_o0_640_S1024x128 Y C S⟩,
      ⟨Rect.unit ![0, 512] ![1024, 128] inb_S1024x1024_S1024x128_0_512, headV 512 slices_S1024x1024_o0_512_S1024x128 Y C S⟩,
      ⟨Rect.unit ![0, 384] ![1024, 128] inb_S1024x1024_S1024x128_0_384, headV 384 slices_S1024x1024_o0_384_S1024x128 Y C S⟩,
      ⟨Rect.unit ![0, 256] ![1024, 128] inb_S1024x1024_S1024x128_0_256, headV 256 slices_S1024x1024_o0_256_S1024x128 Y C S⟩,
      ⟨Rect.unit ![0, 128] ![1024, 128] inb_S1024x1024_S1024x128_0_128, headV 128 slices_S1024x1024_o0_128_S1024x128 Y C S⟩,
      ⟨Rect.unit ![0, 0] ![1024, 128] inb_S1024x1024_S1024x128_0_0, headV 0 slices_S1024x1024_o0_0_S1024x128 Y C S⟩] : List (View.Piece (Elt Ideal) S1024x1024 .bf16)), ∀ x : p.1.shape.Idx, p.2 x = ropeY Y C S (p.1.emb x) :=
  View.PiecesOf.mem (G := ropeY Y C S) ⟨headV_apply 896 (by norm_num) _ (by norm_num) inb_S1024x1024_S1024x128_0_896 Y C S, headV_apply 768 (by norm_num) _ (by norm_num) inb_S1024x1024_S1024x128_0_768 Y C S, headV_apply 640 (by norm_num) _ (by norm_num) inb_S1024x1024_S1024x128_0_640 Y C S, headV_apply 512 (by norm_num) _ (by norm_num) inb_S1024x1024_S1024x128_0_512 Y C S, headV_apply 384 (by norm_num) _ (by norm_num) inb_S1024x1024_S1024x128_0_384 Y C S, headV_apply 256 (by norm_num) _ (by norm_num) inb_S1024x1024_S1024x128_0_256 Y C S, headV_apply 128 (by norm_num) _ (by norm_num) inb_S1024x1024_S1024x128_0_128 Y C S, headV_apply 0 (by norm_num) _ (by norm_num) inb_S1024x1024_S1024x128_0_0 Y C S, trivial⟩

variable (c : Dev nD) (i : grid0.Coords)
  (arg2 : Memref sig .tc .vmem S1024x4096 .bf16) (harg2 : arg2.IsWhole) (arg3 : Memref sig .tc .vmem S1x4096 .f32) (harg3 : arg3.IsWhole)
  (arg4 : Memref sig .tc .vmem S4096x1024 .fp8e4m3) (harg4 : arg4.IsWhole) (arg5 : Memref sig .tc .vmem S1x1024 .f32) (harg5 : arg5.IsWhole)
  (arg6 : Memref sig .tc .vmem S1024x1 .i32) (harg6 : arg6.IsWhole) (arg7 : Memref sig .tc .vmem S1x128 .f32) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x4096 .fp8e4m3) (harg11 : arg11.IsWhole)
  (arg12 : Memref sig .tc .vmem S1024x1 .f32) (harg12 : arg12.IsWhole) (arg13 : Memref sig .tc .vmem S1024x128 .f32) (harg13 : arg13.IsWhole)
  (arg14 : Memref sig .tc .vmem S1024x128 .f32) (harg14 : arg14.IsWhole)
  (x0 : Vec Ideal S1024x4096 .bf16) (x1 : Vec Ideal S1x4096 .f32) (x2 : Vec Ideal S4096x1024 .fp8e4m3) (x3 : Vec Ideal S1x1024 .f32) (x4 : Vec Ideal S1024x1 .i32) (x5 : Vec Ideal S1x128 .f32)

/-- What a point of kind B leaves in its block of rotated heads: the rotation of the product of its buffers. -/
theorem out_B (hc0 : ¬cond0_0 i) (hc1 : cond0_1 i) (hc2 : ¬cond0_2 i) (hc3 : ¬cond0_3 i)
    (xo9 : Vec Ideal S1024x4096 .fp8e4m3) (xo10 : Vec Ideal S1024x1 .f32) (xs0 : Vec Ideal S1024x128 .f32) (xs1 : Vec Ideal S1024x128 .f32) :
    out0_B_6 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1
      = ropeY (k0_pay51 xo9 x2 xo10 x3) xs0 xs1 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1)]
  refine funext fun y => View.canon_apply_of_pieces _ _ ?_ y (cover0_B_6 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1 y)
  unfold kernelRun0_B
  dsimp only
  sl_unfold_words
  simp only [View.readAt_eq_ld, harg4.read_unread, harg5.read_unread, harg11.read_unread, harg12.read_unread, harg13.read_unread, harg14.read_unread,
    View.ld_unit_zero (S := S1024x4096) hz, View.ld_unit_zero (S := S4096x1024) hz, View.ld_unit_zero (S := S1024x1) hz, View.ld_unit_zero (S := S1x1024) hz, View.ld_unit_zero (S := S1024x128) hz]
  exact heads (k0_pay51 xo9 x2 xo10 x3) xs0 xs1

/-- What a point of kind C leaves in its block of rotated heads: the rotation of the product of its buffers. -/
theorem out_C (hc0 : ¬cond0_0 i) (hc1 : ¬cond0_1 i) (hc2 : cond0_2 i) (hc3 : ¬cond0_3 i)
    (xo9 : Vec Ideal S1024x4096 .fp8e4m3) (xo10 : Vec Ideal S1024x1 .f32) (xs0 : Vec Ideal S1024x128 .f32) (xs1 : Vec Ideal S1024x128 .f32) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1
      = ropeY (k0_pay51 xo9 x2 xo10 x3) xs0 xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1)]
  refine funext fun y => View.canon_apply_of_pieces _ _ ?_ y (cover0_C_7 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xo10 xs0 xs1 y)
  unfold kernelRun0_C
  dsimp only
  sl_unfold_words
  simp only [View.readAt_eq_ld, harg4.read_unread, harg5.read_unread, harg11.read_unread, harg12.read_unread, harg13.read_unread, harg14.read_unread,
    View.ld_unit_zero (S := S1024x4096) hz, View.ld_unit_zero (S := S4096x1024) hz, View.ld_unit_zero (S := S1024x1) hz, View.ld_unit_zero (S := S1x1024) hz, View.ld_unit_zero (S := S1024x128) hz]
  exact heads (k0_pay51 xo9 x2 xo10 x3) xs0 xs1

end Cert.KernelIdeal.Value

end
-- ==== Proof.Value.CaseA.lean ====
module

public import proofs.«01_k».proof.Proof.Value.Heads

@[expose] public section

set_option maxRecDepth 16384

noncomputable section

/-! What a point of the first kind leaves: the codes and the scales of its rows, the cosines and the signed sines of
their positions, and its block of rotated queries. -/

namespace Cert.KernelIdeal.Value

open Cert.KernelIdeal Cert.KernelIdeal.Gen Cert.Ladder Cert.Spec Idealize.ShloMosaic Idealize.ShloMosaic.TcCoe Idealize.SL.Sem

variable (c : Dev nD) (i : grid0.Coords)
  (arg2 : Memref sig .tc .vmem S1024x4096 .bf16) (harg2 : arg2.IsWhole) (arg3 : Memref sig .tc .vmem S1x4096 .f32) (harg3 : arg3.IsWhole)
  (arg4 : Memref sig .tc .vmem S4096x1024 .fp8e4m3) (harg4 : arg4.IsWhole) (arg5 : Memref sig .tc .vmem S1x1024 .f32) (harg5 : arg5.IsWhole)
  (arg6 : Memref sig .tc .vmem S1024x1 .i32) (harg6 : arg6.IsWhole) (arg7 : Memref sig .tc .vmem S1x128 .f32) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x4096 .fp8e4m3) (harg11 : arg11.IsWhole)
  (arg12 : Memref sig .tc .vmem S1024x1 .f32) (harg12 : arg12.IsWhole) (arg13 : Memref sig .tc .vmem S1024x128 .f32) (harg13 : arg13.IsWhole)
  (arg14 : Memref sig .tc .vmem S1024x128 .f32) (harg14 : arg14.IsWhole)
  (x0 : Vec Ideal S1024x4096 .bf16) (x1 : Vec Ideal S1x4096 .f32) (x2 : Vec Ideal S4096x1024 .fp8e4m3) (x3 : Vec Ideal S1x1024 .f32) (x4 : Vec Ideal S1024x1 .i32) (x5 : Vec Ideal S1x128 .f32)

/-- The codes of the block of rows. -/
theorem out_A_9 (hc0 : cond0_0 i) (hc1 : cond0_1 i) (hc2 : ¬cond0_2 i) (hc3 : ¬cond0_3 i) :
    out0_A_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 = codesG x0 x1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5)]
  refine funext fun y => View.canon_apply_of_pieces _ _ ?_ y (cover0_A_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 y)
  unfold kernelRun0_A
  dsimp only
  sl_unfold_words
  exact (pb_pieces c i arg2 harg2 arg3 harg3 arg4 harg4 arg5 harg5 arg6 harg6 arg7 harg7 arg8 harg8 arg9 harg9 arg10 harg10 arg11 harg11 arg12 harg12 arg13 harg13 arg14 harg14 x0 x1 _ _ le_rfl).1

/-- The scales of the block of rows. -/
theorem out_A_10 (hc0 : cond0_0 i) (hc1 : cond0_1 i) (hc2 : ¬cond0_2 i) (hc3 : ¬cond0_3 i) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 = scalesG x0 x1 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5)]
  refine funext fun y => View.canon_apply_of_pieces _ _ ?_ y (cover0_A_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 y)
  unfold kernelRun0_A
  dsimp only
  sl_unfold_words
  exact (pb_pieces c i arg2 harg2 arg3 harg3 arg4 harg4 arg5 harg5 arg6 harg6 arg7 harg7 arg8 harg8 arg9 harg9 arg10 harg10 arg11 harg11 arg12 harg12 arg13 harg13 arg14 harg14 x0 x1 _ _ le_rfl).2

/-- The cosines. -/
theorem sout_A_0 (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 = k0_pay3 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5)]
  unfold kernelRun0_A
  dsimp only
  sl_unfold_words
  rw [View.canon_unit_zero hz]
  simp only [View.readAt_eq_ld, harg6.read_unread, harg7.read_unread, View.ld_unit_zero (S := S1024x1) hz, View.ld_unit_zero (S := S1x128) hz]

/-- The signed sines. -/
theorem sout_A_1 (hc0 : cond0_0 i) (hc1 : cond0_1 i) (hc2 : ¬cond0_2 i) (hc3 : ¬cond0_3 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 = k0_pay4 x4 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5)]
  unfold kernelRun0_A
  dsimp only
  sl_unfold_words
  rw [View.canon_unit_zero hz]
  simp only [View.readAt_eq_ld, harg6.read_unread, harg7.read_unread, View.ld_unit_zero (S := S1024x1) hz, View.ld_unit_zero (S := S1x128) hz]

include x2 x3 x4 x5 in
/-- Read back whole, the rows stored by the loop hold their codes. -/
theorem readCov_codes (hc0 : cond0_0 i) (hc1 : cond0_1 i) (hc2 : ¬cond0_2 i) (hc3 : ¬cond0_3 i) (h : k0_cond1 i = 1#1) (inb) :
    arg11.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) (Scf.trips (0#32) (Scalar.addi 0#32 8#32) 1#32)).1 (Rect.unit (s := S1024x4096) ![0, 0] ![1024, 4096] inb).toLoadRect = codesG x0 x1 := by
  have hc : ∀ y, ∃ pc ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) (Scf.trips (0#32) (Scalar.addi 0#32 8#32) 1#32)).1, y ∈ pc.1.set := by
    have hy := cover0_A_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5
    revert hy
    unfold kernelRun0_A
    dsimp only
    sl_unfold_words
    exact fun hy => hy
  have hG : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) (Scf.trips (0#32) (Scalar.addi 0#32 8#32) 1#32)).1 = codesG x0 x1 := funext fun y =>
    View.canon_apply_of_pieces _ _ (pb_pieces c i arg2 harg2 arg3 harg3 arg4 harg4 arg5 harg5 arg6 harg6 arg7 harg7 arg8 harg8 arg9 harg9 arg10 harg10 arg11 harg11 arg12 harg12 arg13 harg13 arg14 harg14 x0 x1 h _ le_rfl).1 y (hc y)
  rw [View.readCov_eq_canon', hG]
  exact View.ld_unit_zero (S := S1024x4096) hz _ _

include x2 x3 x4 x5 in
/-- Read back whole, the rows stored by the loop hold their scales. -/
theorem readCov_scales (hc0 : cond0_0 i) (hc1 : cond0_1 i) (hc2 : ¬cond0_2 i) (hc3 : ¬cond0_3 i) (h : k0_cond1 i = 1#1) (inb) :
    arg12.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) (Scf.trips (0#32) (Scalar.addi 0#32 8#32) 1#32)).2 (Rect.unit (s := S1024x1) ![0, 0] ![1024, 1] inb).toLoadRect = scalesG x0 x1 := by
  have hc : ∀ y, ∃ pc ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) (Scf.trips (0#32) (Scalar.addi 0#32 8#32) 1#32)).2, y ∈ pc.1.set := by
    have hy := cover0_A_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5
    revert hy
    unfold kernelRun0_A
    dsimp only
    sl_unfold_words
    exact fun hy => hy
  have hG : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h (harg2.unread x0) (harg3.unread x1) (Scf.trips (0#32) (Scalar.addi 0#32 8#32) 1#32)).2 = scalesG x0 x1 := funext fun y =>
    View.canon_apply_of_pieces _ _ (pb_pieces c i arg2 harg2 arg3 harg3 arg4 harg4 arg5 harg5 arg6 harg6 arg7 harg7 arg8 harg8 arg9 harg9 arg10 harg10 arg11 harg11 arg12 harg12 arg13 harg13 arg14 harg14 x0 x1 h _ le_rfl).2 y (hc y)
  rw [View.readCov_eq_canon', hG]
  exact View.ld_unit_zero (S := S1024x1) hz _ _

/-- What a point of the first kind leaves in its block of rotated heads. -/
theorem out_A (hc0 : cond0_0 i) (hc1 : cond0_1 i) (hc2 : ¬cond0_2 i) (hc3 : ¬cond0_3 i) :
    out0_A_6 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5
      = ropeY (k0_pay51 (codesG x0 x1) x2 (scalesG x0 x1) x3) (k0_pay3 x4 x5) (k0_pay4 x4 x5) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5)]
  refine funext fun y => View.canon_apply_of_pieces _ _ ?_ y (cover0_A_6 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 y)
  unfold kernelRun0_A
  dsimp only
  sl_unfold_words
  simp only [View.readAt_eq_ld, harg4.read_unread, harg5.read_unread, harg6.read_unread, harg7.read_unread, View.readCov_unit_zero (S := S1024x128) _ hz,
    readCov_codes c i arg2 harg2 arg3 harg3 arg4 harg4 arg5 harg5 arg6 harg6 arg7 harg7 arg8 harg8 arg9 harg9 arg10 harg10 arg11 harg11 arg12 harg12 arg13 harg13 arg14 harg14 x0 x1 x2 x3 x4 x5 hc0 hc1 hc2 hc3, readCov_scales c i arg2 harg2 arg3 harg3 arg4 harg4 arg5 harg5 arg6 harg6 arg7 harg7 arg8 harg8 arg9 harg9 arg10 harg10 arg11 harg11 arg12 harg12 arg13 harg13 arg14 harg14 x0 x1 x2 x3 x4 x5 hc0 hc1 hc2 hc3,
    View.ld_unit_zero (S := S4096x1024) hz, View.ld_unit_zero (S := S1024x1) hz, View.ld_unit_zero (S := S1x1024) hz, View.ld_unit_zero (S := S1x128) hz]
  exact heads (k0_pay51 (codesG x0 x1) x2 (scalesG x0 x1) x3) (k0_pay3 x4 x5) (k0_pay4 x4 x5)

end Cert.KernelIdeal.Value

end
-- ==== Proof.Value.Layer.lean ====
module

public import proofs.«01_k».proof.Proof.Value.Spec

@[expose] public section

noncomputable section

/-! The frequencies of the rotation, and one element of a rotated head, named by its column among all the heads'. -/

namespace Cert.Spec

open Idealize.ShloMosaic Cert.Ladder

/-- The rotation's frequencies: one over the base to the power of twice the index over the head's width. -/
def invF (f : Fin 64) : EReal :=
  Ideal.div 1 (Ideal.pow (Ideal.ofBits .f32 0x461C4000#32)
    (Ideal.div (Ideal.ofBits .f32 0x40000000#32 * FloatOps.sitofp (F := Ideal) .f32 (BitVec.ofNat 32 f.val)) (Ideal.ofBits .f32 0x43000000#32)))

/-- One element of a rotated head: `x` the row, `g` the gain, `w` the weights, `s` their scales, `p` the position and
`C` the element's column in the product. -/
def headAt (x g : Fin 4096 → EReal) (w : Fin 4096 → Fin 12288 → EReal) (s : Fin 12288 → EReal) (p : BitVec 32) (C : Fin 12288) : EReal :=
  rope (fun e => dotRow x g (fun k => w k ⟨C.val / 128 * 128 + e.val, by omega⟩) (s ⟨C.val / 128 * 128 + e.val, by omega⟩)) p invF ⟨C.val % 128, by omega⟩

/-- One element of the product, unrotated. -/
def dotAt (x g : Fin 4096 → EReal) (w : Fin 4096 → Fin 12288 → EReal) (s : Fin 12288 → EReal) (C : Fin 12288) : EReal :=
  dotRow x g (fun k => w k C) (s C)

end Cert.Spec

end
-- ==== Proof.Value.InputsK.lean ====
module

public import proofs.«01_k».proof.Proof.Value.CaseA
public import proofs.«01_k».proof.Proof.Value.Layer
public import Idealize.ShloMosaic.Lib.Claim
public import Idealize.ShloMosaic.Lib.Pipeline.ValueKit

@[expose] public section

set_option maxRecDepth 16384

noncomputable section

/-! The arrays the kernel's windows stage, as the host's operations make them from the arguments, and their blocks. -/

namespace Cert.KernelIdeal.Value

open Cert.KernelIdeal Cert.KernelIdeal.Gen Cert.Ladder Cert.Spec Idealize.ShloMosaic Idealize.ShloMosaic.TcCoe Idealize.SL.Sem

variable (m : (ℓ : Loc nD τ sig) → Buf (Elt Ideal) ℓ) (c : Dev nD)

/-- The frequencies, laid out twice. -/
theorem freq_eq (f : Fin 128) : (V m c main_v12 : Vec Ideal S1x128 .f32) (ix2 0 f) = invF ⟨f.val % 64, by omega⟩ := by
  entry_read
  pointwise
  unfold invF
  by_cases h : f.val < 64
  · have e : f.val % 64 = f.val := by omega
    simp only [dif_pos h, e]
  · have e : f.val % 64 = f.val - 64 := by omega
    simp only [dif_neg h, e]

theorem x_eq : (V m c main_v13 : Vec Ideal S16384x4096 .bf16)
    = shapeCast S16384x4096 (m ((c : Thread nD τ).loc main_arg0)) shapeCasts_S8x2048x4096_S16384x4096 := by
  entry_read
  rfl

theorem gain_eq : (V m c main_v14 : Vec Ideal S1x4096 .f32) = shapeCast S1x4096 (m ((c : Thread nD τ).loc main_arg1)) shapeCasts_S4096_S1x4096 := by
  entry_read
  rfl

theorem wscale_eq : (V m c main_v15 : Vec Ideal S1x12288 .f32) = shapeCast S1x12288 (m ((c : Thread nD τ).loc main_arg3)) shapeCasts_S12288_S1x12288 := by
  entry_read
  rfl

theorem pos_eq : (V m c main_v16 : Vec Ideal S16384x1 .i32) = shapeCast S16384x1 (m ((c : Thread nD τ).loc main_arg4)) shapeCasts_S8x2048_S16384x1 := by
  entry_read
  rfl

theorem w_eq : (V m c main_arg2 : Vec Ideal S4096x12288 .fp8e4m3) = m ((c : Thread nD τ).loc main_arg2) := V_main_arg2 m c

/-- The row of the arrays that row `r` of a block holds at point `t`. -/
def rowAt (t : Fin cfg0.N) (r : Fin 1024) : Fin 16384 :=
  ⟨t.val / 12 * 1024 + r.val, by have h : t.val < 192 := lt_of_lt_of_eq t.isLt N_0; omega⟩

/-- The column of the weights that column `l` of a block holds at point `t`. -/
def colAt (t : Fin cfg0.N) (l : Fin 1024) : Fin 12288 :=
  ⟨t.val % 12 * 1024 + l.val, by omega⟩

theorem index0 : ∀ t : Fin cfg0.N, win0_0.index t = ![t.val / 12, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 12] := (by decide +kernel : ∀ t : Fin grid0.N, _)
theorem index3 : ∀ t : Fin cfg0.N, win0_3.index t = ![0, t.val % 12] := (by decide +kernel : ∀ t : Fin grid0.N, _)
theorem index4 : ∀ t : Fin cfg0.N, win0_4.index t = ![t.val / 12, 0] := (by decide +kernel : ∀ t : Fin grid0.N, _)
theorem index5 : ∀ t : Fin cfg0.N, win0_5.index t = ![0, 0] := (by decide +kernel : ∀ t : Fin grid0.N, _)

theorem blk0 (t : Fin cfg0.N) (r : Fin 1024) (k : Fin 4096) :
    (iblk m c 0 t : Vec Ideal S1024x4096 .bf16) (ix2 r k) = (V m c main_v13 : Vec Ideal S16384x4096 .bf16) (ix2 (rowAt t r) k) := by
  blk_simp [iblk]
  refine congrArg (V m c main_v13) ?_
  blk_ext [index0, rowAt]

theorem blk1 (t : Fin cfg0.N) (k : Fin 4096) :
    (iblk m c 1 t : Vec Ideal S1x4096 .f32) (ix2 0 k) = (V m c main_v14 : Vec Ideal S1x4096 .f32) (ix2 0 k) := by
  blk_simp [iblk]
  refine congrArg (V m c main_v14) ?_
  blk_ext [index1]

theorem blk2 (t : Fin cfg0.N) (k : Fin 4096) (l : Fin 1024) :
    (iblk m c 2 t : Vec Ideal S4096x1024 .fp8e4m3) (ix2 k l) = (V m c main_arg2 : Vec Ideal S4096x12288 .fp8e4m3) (ix2 k (colAt t l)) := by
  blk_simp [iblk]
  refine congrArg (V m c main_arg2) ?_
  blk_ext [index2, colAt]

theorem blk3 (t : Fin cfg0.N) (l : Fin 1024) :
    (iblk m c 3 t : Vec Ideal S1x1024 .f32) (ix2 0 l) = (V m c main_v15 : Vec Ideal S1x12288 .f32) (ix2 0 (colAt t l)) := by
  blk_simp [iblk]
  refine congrArg (V m c main_v15) ?_
  blk_ext [index3, colAt]

theorem blk4 (t : Fin cfg0.N) (r : Fin 1024) :
    (iblk m c 4 t : Vec Ideal S1024x1 .i32) (ix2 r 0) = (V m c main_v16 : Vec Ideal S16384x1 .i32) (ix2 (rowAt t r) 0) := by
  blk_simp [iblk]
  refine congrArg (V m c main_v16) ?_
  blk_ext [index4, rowAt]

theorem blk5 (t : Fin cfg0.N) (l : Fin 128) :
    (iblk m c 5 t : Vec Ideal S1x128 .f32) (ix2 0 l) = (V m c main_v12 : Vec Ideal S1x128 .f32) (ix2 0 l) := by
  blk_simp [iblk]
  refine congrArg (V m c main_v12) ?_
  blk_ext [index5]

end Cert.KernelIdeal.Value

end
-- ==== Proof.Value.Carry.lean ====
module

public import proofs.«01_k».proof.Proof.Value.InputsK
public import Idealize.ShloMosaic.Lib.Pointwise

@[expose] public section

set_option maxRecDepth 16384

noncomputable section

/-! What the staged blocks hold after each point of the grid: the row block's codes, scales, cosines and signed sines from
its first point on, and the heads and the values at the point's column block. -/

namespace Cert.KernelIdeal.Value

open Cert.KernelIdeal Cert.KernelIdeal.Gen Cert.Ladder Cert.Spec Idealize.ShloMosaic Idealize.ShloMosaic.TcCoe Idealize.SL.Sem

variable (m : (ℓ : Loc nD τ sig) → Buf (Elt Ideal) ℓ) (c : Dev nD)

/-- Row `R` of the activations. -/
def xRow (R : Fin 16384) : Fin 4096 → EReal := fun k => (V m c main_v13 : Vec Ideal S16384x4096 .bf16) (ix2 R k)
/-- The gain. -/
def gRow : Fin 4096 → EReal := fun k => (V m c main_v14 : Vec Ideal S1x4096 .f32) (ix2 0 k)
/-- The weights. -/
def wMat : Fin 4096 → Fin 12288 → EReal := fun k C => (V m c main_arg2 : Vec Ideal S4096x12288 .fp8e4m3) (ix2 k C)
/-- The weights' scales. -/
def sRow : Fin 12288 → EReal := fun C => (V m c main_v15 : Vec Ideal S1x12288 .f32) (ix2 0 C)
/-- The position of row `R`. -/
def posOf (R : Fin 16384) : BitVec 32 := (V m c main_v16 : Vec Ideal S16384x1 .i32) (ix2 R 0)

/-- The codes of the row block of point `t`. -/
def codesAt (t : Fin cfg0.N) : Vec Ideal S1024x4096 .fp8e4m3 := fun y => codeRow (xRow m c (rowAt t (y 0))) (gRow m c) (y 1)
/-- The scales of the row block of point `t`. -/
def scalesAt (t : Fin cfg0.N) : Vec Ideal S1024x1 .f32 := fun y => scaleRow (xRow m c (rowAt t (y 0))) (gRow m c)
/-- The angle of a row at a lane. -/
def angle (R : Fin 16384) (d : Fin 128) : EReal := ((((posOf m c R).toInt : ℝ)) : EReal) * invF ⟨d.val % 64, by omega⟩
/-- The cosines of the row block of point `t`. -/
def cosAt (t : Fin cfg0.N) : Vec Ideal S1024x128 .f32 := fun y => Ideal.cos (angle m c (rowAt t (y 0)) (y 1))
/-- The sines of the row block of point `t`, the first half of the lanes negated. -/
def sinAt (t : Fin cfg0.N) : Vec Ideal S1024x128 .f32 := fun y =>
  Scalar.select (IntOp.cmpi .slt (BitVec.ofNat 32 (y 1).val) 64#32) (0 - Ideal.sin (angle m c (rowAt t (y 0)) (y 1))) (Ideal.sin (angle m c (rowAt t (y 0)) (y 1)))

theorem codesG_eq (t : Fin cfg0.N) : codesG (iblk m c 0 t) (iblk m c 1 t) = codesAt m c t := by
  refine funext fun y => ?_
  rw [codesG, codesAt]
  exact congrArg₂ (fun a b => codeRow a b (y 1)) (funext fun k => blk0 m c t (y 0) k) (funext fun k => blk1 m c t k)

theorem scalesG_eq (t : Fin cfg0.N) : scalesG (iblk m c 0 t) (iblk m c 1 t) = scalesAt m c t := by
  refine funext fun y => ?_
  rw [scalesG, scalesAt]
  exact congrArg₂ (fun a b => scaleRow a b) (funext fun k => blk0 m c t (y 0) k) (funext fun k => blk1 m c t k)

theorem pay3_apply (x4 : Vec Ideal S1024x1 .i32) (x5 : Vec Ideal S1x128 .f32) (r : Fin 1024) (d : Fin 128) :
    k0_pay3 (F := Ideal) x4 x5 (ix2 r d) = Ideal.cos (FloatOps.sitofp (F := Ideal) .f32 (x4 (ix2 r 0)) * x5 (ix2 0 d)) := by
  pointwise [k0_pay3, k0_pay2]

theorem pay4_apply (x4 : Vec Ideal S1024x1 .i32) (x5 : Vec Ideal S1x128 .f32) (r : Fin 1024) (d : Fin 128) :
    k0_pay4 (F := Ideal) x4 x5 (ix2 r d) = Scalar.select (IntOp.cmpi .slt (BitVec.ofNat 32 d.val) 64#32)
      (0 - Ideal.sin (FloatOps.sitofp (F := Ideal) .f32 (x4 (ix2 r 0)) * x5 (ix2 0 d))) (Ideal.sin (FloatOps.sitofp (F := Ideal) .f32 (x4 (ix2 r 0)) * x5 (ix2 0 d))) := by
  pointwise [k0_pay4, k0_pay2]

theorem sitofp_eq (b : BitVec 32) : FloatOps.sitofp (F := Ideal) .f32 b = ((b.toInt : ℝ) : EReal) := rfl

theorem angle_eq (t : Fin cfg0.N) (r : Fin 1024) (d : Fin 128) :
    FloatOps.sitofp (F := Ideal) .f32 ((iblk m c 4 t : Vec Ideal S1024x1 .i32) (ix2 r 0)) * (iblk m c 5 t : Vec Ideal S1x128 .f32) (ix2 0 d)
      = angle m c (rowAt t r) d := by
  rw [blk4, blk5, freq_eq, sitofp_eq, angle, posOf]

theorem cos_eq (t : Fin cfg0.N) : k0_pay3 (F := Ideal) (iblk m c 4 t) (iblk m c 5 t) = cosAt m c t := by
  refine funext fun y => ?_
  obtain ⟨r, d, rfl⟩ : ∃ (r : Fin 1024) (d : Fin 128), y = ix2 r d := ⟨y 0, y 1, eq_ix2 y⟩
  rw [pay3_apply, angle_eq]
  rfl

theorem sin_eq (t : Fin cfg0.N) : k0_pay4 (F := Ideal) (iblk m c 4 t) (iblk m c 5 t) = sinAt m c t := by
  refine funext fun y => ?_
  obtain ⟨r, d, rfl⟩ : ∃ (r : Fin 1024) (d : Fin 128), y = ix2 r d := ⟨y 0, y 1, eq_ix2 y⟩
  rw [pay4_apply, angle_eq]
  rfl

theorem pay51_apply (a : Vec Ideal S1024x4096 .fp8e4m3) (w : Vec Ideal S4096x1024 .fp8e4m3) (s : Vec Ideal S1024x1 .f32) (u : Vec Ideal S1x1024 .f32)
    (r : Fin 1024) (l : Fin 1024) :
    k0_pay51 (F := Ideal) a w s u (ix2 r l) = (∑ k : Fin 4096, a (ix2 r k) * w (ix2 k l)) * s (ix2 r 0) * u (ix2 0 l) := by
  pointwise [k0_pay51]

theorem pay15_apply (a : Vec Ideal S1024x4096 .fp8e4m3) (w : Vec Ideal S4096x1024 .fp8e4m3) (s : Vec Ideal S1024x1 .f32) (u : Vec Ideal S1x1024 .f32)
    (r : Fin 1024) (l : Fin 1024) :
    k0_pay15 (F := Ideal) a w s u (ix2 r l) = (∑ k : Fin 4096, a (ix2 r k) * w (ix2 k l)) * s (ix2 r 0) * u (ix2 0 l) := by
  pointwise [k0_pay15]

theorem sum_eq (t : Fin cfg0.N) (r l : Fin 1024) :
    (∑ k : Fin 4096, codesAt m c t (ix2 r k) * (iblk m c 2 t : Vec Ideal S4096x1024 .fp8e4m3) (ix2 k l)) * scalesAt m c t (ix2 r 0) * (iblk m c 3 t : Vec Ideal S1x1024 .f32) (ix2 0 l)
      = dotAt (xRow m c (rowAt t r)) (gRow m c) (wMat m c) (sRow m c) (colAt t l) := by
  rw [blk3, Finset.sum_congr rfl fun k _ => congrArg (codesAt m c t (ix2 r k) * ·) (blk2 m c t k l)]
  rfl

/-- The values of the point's block. -/
theorem value_eq (t : Fin cfg0.N) : k0_pay15 (F := Ideal) (codesAt m c t) (iblk m c 2 t) (scalesAt m c t) (iblk m c 3 t)
    = fun y => dotAt (xRow m c (rowAt t (y 0))) (gRow m c) (wMat m c) (sRow m c) (colAt t (y 1)) := by
  refine funext fun y => ?_
  obtain ⟨r, l, rfl⟩ : ∃ (r : Fin 1024) (l : Fin 1024), y = ix2 r l := ⟨y 0, y 1, eq_ix2 y⟩
  rw [pay15_apply, sum_eq]
  rfl

theorem slt64 (n : Nat) (h : n < 128) : IntOp.cmpi .slt (BitVec.ofNat 32 n) 64#32 = if n < 64 then 1#1 else 0#1 := by
  have H : ∀ k : Fin 128, IntOp.cmpi .slt (BitVec.ofNat 32 k.val) 64#32 = if k.val < 64 then 1#1 else 0#1 := by decide
  exact H ⟨n, h⟩

/-- The rotation with the sines' sign folded into the table is the rotation of the specification. -/
theorem rope_eq (D : Fin 128 → EReal) (R : Fin 16384) (d : Fin 128) :
    D d * Ideal.cos (angle m c R d) + D ⟨(d.val + 64) % 128, by omega⟩
        * Scalar.select (IntOp.cmpi .slt (BitVec.ofNat 32 d.val) 64#32) (0 - Ideal.sin (angle m c R d)) (Ideal.sin (angle m c R d))
      = rope D (posOf m c R) invF d := by
  rw [slt64 d.val d.isLt, rope]
  have hd := d.isLt
  by_cases h : d.val < 64
  · have e : (⟨d.val % 64, by omega⟩ : Fin 64) = ⟨d.val, h⟩ := Fin.ext (show d.val % 64 = d.val by omega)
    have e' : (⟨(d.val + 64) % 128, by omega⟩ : Fin 128) = ⟨d.val + 64, by omega⟩ := Fin.ext (show (d.val + 64) % 128 = d.val + 64 by omega)
    rw [dif_pos h, if_pos h, Scalar.select, if_pos (show (1#1 : BitVec 1) = 1 from rfl), e', angle, e, zero_sub, mul_neg, ← sub_eq_add_neg]
  · have e : (⟨d.val % 64, by omega⟩ : Fin 64) = ⟨d.val - 64, by omega⟩ := Fin.ext (show d.val % 64 = d.val - 64 by omega)
    have e' : (⟨(d.val + 64) % 128, by omega⟩ : Fin 128) = ⟨d.val - 64, by omega⟩ := Fin.ext (show (d.val + 64) % 128 = d.val - 64 by omega)
    rw [dif_neg h, if_neg h, Scalar.select, if_neg (show ¬(0#1 : BitVec 1) = 1 by decide), e', angle, e]

/-- A rotated head, by its block's columns. -/
theorem head_col (x g : Fin 4096 → EReal) (w : Fin 4096 → Fin 12288 → EReal) (s : Fin 12288 → EReal) (p : BitVec 32) (t : Fin cfg0.N) (l : Fin 1024) :
    rope (fun e => dotAt x g w s (colAt t ⟨l.val / 128 * 128 + e.val, by omega⟩)) p invF ⟨l.val % 128, by omega⟩ = headAt x g w s p (colAt t l) := by
  have e2 : (⟨(colAt t l).val % 128, by omega⟩ : Fin 128) = ⟨l.val % 128, by omega⟩ :=
    Fin.ext (show (t.val % 12 * 1024 + l.val) % 128 = l.val % 128 by omega)
  have e3 : ∀ e : Fin 128, colAt t ⟨l.val / 128 * 128 + e.val, by omega⟩ = ⟨(colAt t l).val / 128 * 128 + e.val, by have := (colAt t l).isLt; omega⟩ := fun e =>
    Fin.ext (show t.val % 12 * 1024 + (l.val / 128 * 128 + e.val) = (t.val % 12 * 1024 + l.val) / 128 * 128 + e.val by omega)
  rw [headAt, e2]
  exact congrArg (fun D => rope D p invF ⟨l.val % 128, by omega⟩) (funext fun e => by rw [e3 e]; rfl)

/-- The heads of the point's block. -/
theorem head_eq (t : Fin cfg0.N) : ropeY (k0_pay51 (F := Ideal) (codesAt m c t) (iblk m c 2 t) (scalesAt m c t) (iblk m c 3 t)) (cosAt m c t) (sinAt m c t)
    = fun y => headAt (xRow m c (rowAt t (y 0))) (gRow m c) (wMat m c) (sRow m c) (posOf m c (rowAt t (y 0))) (colAt t (y 1)) := by
  refine funext fun y => ?_
  obtain ⟨r, l, rfl⟩ : ∃ (r : Fin 1024) (l : Fin 1024), y = ix2 r l := ⟨y 0, y 1, eq_ix2 y⟩
  have hl := l.isLt
  have hY : ∀ k : Fin 1024, k0_pay51 (F := Ideal) (codesAt m c t) (iblk m c 2 t) (scalesAt m c t) (iblk m c 3 t) (ix2 r k)
      = dotAt (xRow m c (rowAt t r)) (gRow m c) (wMat m c) (sRow m c) (colAt t k) := fun k => by rw [pay51_apply, sum_eq]
  generalize k0_pay51 (F := Ideal) (codesAt m c t) (iblk m c 2 t) (scalesAt m c t) (iblk m c 3 t) = Y at hY
  have key := rope_eq m c (fun e => dotAt (xRow m c (rowAt t r)) (gRow m c) (wMat m c) (sRow m c) (colAt t ⟨l.val / 128 * 128 + e.val, by omega⟩)) (rowAt t r) ⟨l.val % 128, by omega⟩
  have e1 : (⟨l.val / 128 * 128 + l.val % 128, by omega⟩ : Fin 1024) = l := Fin.ext (show l.val / 128 * 128 + l.val % 128 = l.val by omega)
  rw [ropeY]
  refine Eq.trans ?_ (key.trans ?_)
  · refine congrArg₂ (· + ·) (congrArg₂ (· * ·) ?_ rfl) (congrArg₂ (· * ·) ?_ rfl)
    · refine (hY l).trans ?_
      dsimp only
      rw [e1]
    · exact hY _
  · exact head_col _ _ _ _ _ t l

end Cert.KernelIdeal.Value

end
-- ==== Proof.Value.Points.lean ====
module

public import proofs.«01_k».proof.Proof.Value.Carry
public import proofs.«01_k».proof.Proof.Value.CaseD
public import proofs.«01_k».proof.Proof.Region.Blocks

@[expose] public section

set_option maxRecDepth 16384

noncomputable section

/-! What every staged block holds after each point, by induction along the grid. -/

namespace Cert.KernelIdeal.Value

open Cert.KernelIdeal Cert.KernelIdeal.Gen Cert.Ladder Cert.Spec Idealize.ShloMosaic Idealize.ShloMosaic.TcCoe Idealize.SL.Sem

variable (m : (ℓ : Loc nD τ sig) → Buf (Elt Ideal) ℓ) (c : Dev nD)

/-- The column that column `l` of a block of heads has, once the points have passed column block `n`. -/
def heldCol (t : Fin cfg0.N) (n : Nat) (l : Fin 1024) : Fin 12288 :=
  ⟨min (t.val % 12) n * 1024 + l.val, by have : min (t.val % 12) n ≤ t.val % 12 := Nat.min_le_left _ _; omega⟩

/-- A block of heads, held from column block `n` on. -/
def headsAt (t : Fin cfg0.N) (n : Nat) : Vec Ideal S1024x1024 .bf16 := fun y =>
  headAt (xRow m c (rowAt t (y 0))) (gRow m c) (wMat m c) (sRow m c) (posOf m c (rowAt t (y 0))) (heldCol t n (y 1))

/-- A block of values. -/
def valuesAt (t : Fin cfg0.N) : Vec Ideal S1024x1024 .bf16 := fun y =>
  dotAt (xRow m c (rowAt t (y 0))) (gRow m c) (wMat m c) (sRow m c) (colAt t (y 1))

/-- What the staged blocks hold after point `t`. -/
structure Held (t : Fin cfg0.N) : Prop where
  codes : (outsAt0 m c t.val t.isLt).2.2.2.1 = codesAt m c t
  scales : (outsAt0 m c t.val t.isLt).2.2.2.2.1 = scalesAt m c t
  cos : (outsAt0 m c t.val t.isLt).2.2.2.2.2.1 = cosAt m c t
  sin : (outsAt0 m c t.val t.isLt).2.2.2.2.2.2 = sinAt m c t
  q : (outsAt0 m c t.val t.isLt).1 = headsAt m c t 3
  k : 4 ≤ t.val % 12 → (outsAt0 m c t.val t.isLt).2.1 = headsAt m c t 7
  v : 8 ≤ t.val % 12 → (outsAt0 m c t.val t.isLt).2.2.1 = valuesAt m c t

theorem rowAt_congr {s t : Fin cfg0.N} (h : s.val / 12 = t.val / 12) : rowAt s = rowAt t := by
  refine funext fun r => Fin.ext ?_
  show s.val / 12 * 1024 + r.val = t.val / 12 * 1024 + r.val
  rw [h]

theorem heldCol_congr {s t : Fin cfg0.N} {n : Nat} (h : min (s.val % 12) n = min (t.val % 12) n) : heldCol s n = heldCol t n := by
  refine funext fun l => Fin.ext ?_
  show min (s.val % 12) n * 1024 + l.val = min (t.val % 12) n * 1024 + l.val
  rw [h]

theorem heldCol_self {t : Fin cfg0.N} {n : Nat} (h : t.val % 12 ≤ n) : heldCol t n = colAt t := by
  refine funext fun l => Fin.ext ?_
  show min (t.val % 12) n * 1024 + l.val = t.val % 12 * 1024 + l.val
  rw [Nat.min_eq_left h]

theorem heads_congr {s t : Fin cfg0.N} {n : Nat} (h : s.val / 12 = t.val / 12) (hn : min (s.val % 12) n = min (t.val % 12) n) :
    headsAt m c s n = headsAt m c t n := by
  unfold headsAt
  rw [rowAt_congr h, heldCol_congr hn]

/-- The heads the point computes are the ones it holds. -/
theorem heads_self {t : Fin cfg0.N} {n : Nat} (h : t.val % 12 ≤ n) :
    ropeY (k0_pay51 (F := Ideal) (codesAt m c t) (iblk m c 2 t) (scalesAt m c t) (iblk m c 3 t)) (cosAt m c t) (sinAt m c t) = headsAt m c t n := by
  unfold headsAt
  rw [head_eq, heldCol_self h]

theorem held_A (t : Fin cfg0.N) (h0 : t.val % 12 = 0) : Held m c t := by
  have E := outsAt0_A m c t h0 (by omega) (by omega) (by omega)
  refine ⟨?_, ?_, ?_, ?_, ?_, fun h => by omega, fun h => by omega⟩
  · rw [E]
    dsimp only
    rw [out_A_9, codesG_eq]
  · rw [E]
    dsimp only
    rw [out_A_10, scalesG_eq]
  · rw [E]
    dsimp only
    rw [sout_A_0, cos_eq]
  · rw [E]
    dsimp only
    rw [sout_A_1, sin_eq]
  · rw [E]
    dsimp only
    rw [out_A, codesG_eq, scalesG_eq, cos_eq, sin_eq]
    exact heads_self m c (by omega)

variable {m c}

/-- What a point inherits from the one before it in the same row block. -/
theorem Held.carry {s t : Fin cfg0.N} (H : Held m c s) (h : s.val / 12 = t.val / 12) :
    (outsAt0 m c s.val s.isLt).2.2.2.1 = codesAt m c t ∧ (outsAt0 m c s.val s.isLt).2.2.2.2.1 = scalesAt m c t
      ∧ (outsAt0 m c s.val s.isLt).2.2.2.2.2.1 = cosAt m c t ∧ (outsAt0 m c s.val s.isLt).2.2.2.2.2.2 = sinAt m c t := by
  have hr := rowAt_congr h
  refine ⟨H.codes.trans ?_, H.scales.trans ?_, H.cos.trans ?_, H.sin.trans ?_⟩
  · unfold codesAt
    rw [hr]
  · unfold scalesAt
    rw [hr]
  · unfold cosAt
    rw [hr]
  · unfold sinAt
    rw [hr]

theorem held_B (t : Fin cfg0.N) (h0 : ¬t.val % 12 = 0) (h1 : t.val % 12 ≤ 3)
    (H : Held m c ⟨t.val - 1, Nat.lt_of_le_of_lt (Nat.sub_le _ _) t.isLt⟩) : Held m c t := by
  have E := outsAt0_B m c t h0 h1 (by omega) (by omega)
  obtain ⟨e9, e10, ec, es⟩ := H.carry (t := t) (show (t.val - 1) / 12 = t.val / 12 by omega)
  dsimp only at e9 e10 ec es
  refine ⟨?_, ?_, ?_, ?_, ?_, fun h => by omega, fun h => by omega⟩
  · rw [E]
    dsimp only
    unfold out0_B_9
    exact e9
  · rw [E]
    dsimp only
    unfold out0_B_10
    exact e10
  · rw [E]
    dsimp only
    unfold sout0_B_0
    exact ec
  · rw [E]
    dsimp only
    unfold sout0_B_1
    exact es
  · rw [E]
    dsimp only
    rw [out_B, e9, e10, ec, es]
    exact heads_self m c (by omega)

theorem held_C (t : Fin cfg0.N) (h2 : 4 ≤ t.val % 12 ∧ t.val % 12 ≤ 7)
    (H : Held m c ⟨t.val - 1, Nat.lt_of_le_of_lt (Nat.sub_le _ _) t.isLt⟩) : Held m c t := by
  have E := outsAt0_C m c t (by omega) (by omega) h2 (by omega)
  obtain ⟨e9, e10, ec, es⟩ := H.carry (t := t) (show (t.val - 1) / 12 = t.val / 12 by omega)
  dsimp only at e9 e10 ec es
  have eq := H.q.trans (heads_congr m c (t := t) (show (t.val - 1) / 12 = t.val / 12 by omega) (show min ((t.val - 1) % 12) 3 = min (t.val % 12) 3 by omega))
  refine ⟨?_, ?_, ?_, ?_, ?_, fun _ => ?_, fun h => by omega⟩
  · rw [E]
    dsimp only
    unfold out0_C_9
    exact e9
  · rw [E]
    dsimp only
    unfold out0_C_10
    exact e10
  · rw [E]
    dsimp only
    unfold sout0_C_0
    exact ec
  · rw [E]
    dsimp only
    unfold sout0_C_1
    exact es
  · rw [E]
    dsimp only
    unfold out0_C_6
    exact eq
  · rw [E]
    dsimp only
    rw [out_C, e9, e10, ec, es]
    exact heads_self m c (by omega)

theorem held_D (t : Fin cfg0.N) (h3 : 8 ≤ t.val % 12)
    (H : Held m c ⟨t.val - 1, Nat.lt_of_le_of_lt (Nat.sub_le _ _) t.isLt⟩) : Held m c t := by
  have E := outsAt0_D m c t (by omega) (by omega) (by omega) h3
  obtain ⟨e9, e10, ec, es⟩ := H.carry (t := t) (show (t.val - 1) / 12 = t.val / 12 by omega)
  dsimp only at e9 e10 ec es
  have eq := H.q.trans (heads_congr m c (t := t) (show (t.val - 1) / 12 = t.val / 12 by omega) (show min ((t.val - 1) % 12) 3 = min (t.val % 12) 3 by omega))
  have ek := (H.k (show 4 ≤ (t.val - 1) % 12 by omega)).trans
    (heads_congr m c (t := t) (show (t.val - 1) / 12 = t.val / 12 by omega) (show min ((t.val - 1) % 12) 7 = min (t.val % 12) 7 by omega))
  refine ⟨?_, ?_, ?_, ?_, ?_, fun _ => ?_, fun _ => ?_⟩
  · rw [E]
    dsimp only
    unfold out0_D_9
    exact e9
  · rw [E]
    dsimp only
    unfold out0_D_10
    exact e10
  · rw [E]
    dsimp only
    unfold sout0_D_0
    exact ec
  · rw [E]
    dsimp only
    unfold sout0_D_1
    exact es
  · rw [E]
    dsimp only
    unfold out0_D_6
    exact eq
  · rw [E]
    dsimp only
    unfold out0_D_7
    exact ek
  · rw [E]
    dsimp only
    rw [out_D, e9, e10]
    exact value_eq m c t

variable (m c)

/-- What the staged blocks hold after every point. -/
theorem held : ∀ (n : Nat) (hn : n < cfg0.N), Held m c ⟨n, hn⟩
  | 0, hn => held_A m c ⟨0, hn⟩ rfl
  | n + 1, hn => by
    have H := held n (Nat.lt_of_succ_lt hn)
    by_cases h0 : (n + 1) % 12 = 0
    · exact held_A m c ⟨n + 1, hn⟩ h0
    by_cases h1 : (n + 1) % 12 ≤ 3
    · exact held_B ⟨n + 1, hn⟩ h0 h1 H
    by_cases h3 : 8 ≤ (n + 1) % 12
    · exact held_D ⟨n + 1, hn⟩ h3 H
    · exact held_C ⟨n + 1, hn⟩ (show 4 ≤ (n + 1) % 12 ∧ (n + 1) % 12 ≤ 7 by omega) H

end Cert.KernelIdeal.Value

end
-- ==== Proof.Value.ArraysK.lean ====
module

public import proofs.«01_k».proof.Proof.Value.Points
public import Idealize.ShloMosaic.Lib.Pipeline.ValueKit.Geometry

@[expose] public section

set_option maxRecDepth 16384

noncomputable section

/-! The kernel's five arrays after the whole grid, element by element. -/

namespace Cert.KernelIdeal.Value

open Cert.KernelIdeal Cert.KernelIdeal.Gen Cert.Ladder Cert.Spec Idealize.ShloMosaic Idealize.ShloMosaic.TcCoe Idealize.SL.Sem

variable (m : (ℓ : Loc nD τ sig) → Buf (Elt Ideal) ℓ) (c : Dev nD)

/-- The queries. -/
def qArr : Vec Ideal S16384x4096 .bf16 := fun y =>
  headAt (xRow m c (y 0)) (gRow m c) (wMat m c) (sRow m c) (posOf m c (y 0)) ⟨(y 1).val, by have : (y 1).val < 4096 := (y 1).isLt; omega⟩
/-- The keys. -/
def kArr : Vec Ideal S16384x4096 .bf16 := fun y =>
  headAt (xRow m c (y 0)) (gRow m c) (wMat m c) (sRow m c) (posOf m c (y 0)) ⟨4096 + (y 1).val, by have : (y 1).val < 4096 := (y 1).isLt; omega⟩
/-- The values. -/
def vArr : Vec Ideal S16384x4096 .bf16 := fun y =>
  dotAt (xRow m c (y 0)) (gRow m c) (wMat m c) (sRow m c) ⟨8192 + (y 1).val, by have : (y 1).val < 4096 := (y 1).isLt; omega⟩
/-- The codes. -/
def codesArr : Vec Ideal S16384x4096 .fp8e4m3 := fun y => codeRow (xRow m c (y 0)) (gRow m c) (y 1)
/-- The scales. -/
def scalesArr : Vec Ideal S16384x1 .f32 := fun y => scaleRow (xRow m c (y 0)) (gRow m c)

theorem index6 : ∀ t : Fin cfg0.N, win0_6.index t = ![t.val / 12, min (t.val % 12) 3] := (by decide +kernel : ∀ t : Fin grid0.N, _)
theorem index7 : ∀ t : Fin cfg0.N, win0_7.index t = ![t.val / 12, min (t.val % 12 - 4) 3] := (by decide +kernel : ∀ t : Fin grid0.N, _)
theorem index8 : ∀ t : Fin cfg0.N, win0_8.index t = ![t.val / 12, t.val % 12 - 8] := (by decide +kernel : ∀ t : Fin grid0.N, _)
theorem index9 : ∀ t : Fin cfg0.N, win0_9.index t = ![t.val / 12, 0] := (by decide +kernel : ∀ t : Fin grid0.N, _)
theorem index10 : ∀ t : Fin cfg0.N, win0_10.index t = ![t.val / 12, 0] := (by decide +kernel : ∀ t : Fin grid0.N, _)

/-- The keys are written back only from their own points on. -/
theorem flush7 : ∀ t : Fin cfg0.N, win0_7.flush t = true → 4 ≤ t.val % 12 := (by decide +kernel : ∀ t : Fin grid0.N, _)
/-- The values are written back only from their own points on. -/
theorem flush8 : ∀ t : Fin cfg0.N, win0_8.flush t = true → 8 ≤ t.val % 12 := (by decide +kernel : ∀ t : Fin grid0.N, _)

theorem arr9 : (dats m 0 c).arrAt 9 cfg0.N = codesArr m c := by
  refine (dats m 0 c).arrAt_eq_of_covers 9 _ (by decide +kernel) fun t hf y => ?_
  blk_simp
  rw [after0_9, (held m c t.val t.isLt).codes]
  change Shape.Idx S1024x4096 at y
  have e : (win0_9.blk t).view.emb y = ix2 (rowAt t (y 0)) (y 1) := by
    blk_ext [index9, rowAt]
  rw [e]
  rfl

theorem arr10 : (dats m 0 c).arrAt 10 cfg0.N = scalesArr m c := by
  refine (dats m 0 c).arrAt_eq_of_covers 10 _ (by decide +kernel) fun t hf y => ?_
  blk_simp
  rw [after0_10, (held m c t.val t.isLt).scales]
  change Shape.Idx S1024x1 at y
  have e : (win0_10.blk t).view.emb y = ix2 (rowAt t (y 0)) (y 1) := by
    blk_ext [index10, rowAt]
  rw [e]
  rfl

theorem arr6 : (dats m 0 c).arrAt 6 cfg0.N = qArr m c := by
  refine (dats m 0 c).arrAt_eq_of_covers 6 _ (by decide +kernel) fun t hf y => ?_
  blk_simp
  rw [after0_6, (held m c t.val t.isLt).q]
  change Shape.Idx S1024x1024 at y
  have hy : (y 1).val < 1024 := (y 1).isLt
  have e : (win0_6.blk t).view.emb y = ix2 (rowAt t (y 0)) ⟨min (t.val % 12) 3 * 1024 + (y 1).val, by omega⟩ := by
    blk_ext [index6, rowAt]
  rw [e]
  exact congrArg (headAt (xRow m c (rowAt t (y 0))) (gRow m c) (wMat m c) (sRow m c) (posOf m c (rowAt t (y 0)))) (Fin.ext rfl)

theorem arr7 : (dats m 0 c).arrAt 7 cfg0.N = kArr m c := by
  refine (dats m 0 c).arrAt_eq_of_covers 7 _ (by decide +kernel) fun t hf y => ?_
  have hq := flush7 t hf
  blk_simp
  rw [after0_7, (held m c t.val t.isLt).k hq]
  change Shape.Idx S1024x1024 at y
  have hy : (y 1).val < 1024 := (y 1).isLt
  have e : (win0_7.blk t).view.emb y = ix2 (rowAt t (y 0)) ⟨min (t.val % 12 - 4) 3 * 1024 + (y 1).val, by omega⟩ := by
    blk_ext [index7, rowAt]
  rw [e]
  refine congrArg (headAt (xRow m c (rowAt t (y 0))) (gRow m c) (wMat m c) (sRow m c) (posOf m c (rowAt t (y 0)))) (Fin.ext ?_)
  show min (t.val % 12) 7 * 1024 + (y 1).val = 4096 + (min (t.val % 12 - 4) 3 * 1024 + (y 1).val)
  omega

theorem arr8 : (dats m 0 c).arrAt 8 cfg0.N = vArr m c := by
  refine (dats m 0 c).arrAt_eq_of_covers 8 _ (by decide +kernel) fun t hf y => ?_
  have hq := flush8 t hf
  blk_simp
  rw [after0_8, (held m c t.val t.isLt).v hq]
  change Shape.Idx S1024x1024 at y
  have hy : (y 1).val < 1024 := (y 1).isLt
  have e : (win0_8.blk t).view.emb y = ix2 (rowAt t (y 0)) ⟨(t.val % 12 - 8) * 1024 + (y 1).val, by omega⟩ := by
    blk_ext [index8, rowAt]
  rw [e]
  refine congrArg (dotAt (xRow m c (rowAt t (y 0))) (gRow m c) (wMat m c) (sRow m c)) (Fin.ext ?_)
  show t.val % 12 * 1024 + (y 1).val = 8192 + ((t.val % 12 - 8) * 1024 + (y 1).val)
  omega

end Cert.KernelIdeal.Value

end
-- ==== Proof.Value.Reference.lean ====
module

public import proofs.«01_k».proof.Proof.Value.Spec
public import proofs.«01_k».proof.Proof.Reference.Blocks
public import Idealize.ShloMosaic.Lib.Pointwise

@[expose] public section

set_option maxRecDepth 16384

noncomputable section

/-! The reference's body, read element by element: what it leaves in each result, as the row functions. -/

namespace Cert.ReferenceIdeal.Value

open Cert.ReferenceIdeal Cert.ReferenceIdeal.Gen Cert.Ladder Cert.Spec Idealize.ShloMosaic Idealize.ShloMosaic.TcCoe Idealize.SL.Sem

theorem hz : ∀ a, (![0, 0] : Fin 2 → ℕ) a = 0 := by
  intro a
  fin_cases a <;> rfl

theorem h_apply (X : Vec Ideal S16384x4096 .bf16) (G : Vec Ideal S1x4096 .f32) (r : Fin 16384) (d : Fin 4096) :
    k0_pay4 X G (ix2 r d) = hRow (fun k => X (ix2 r k)) (fun k => G (ix2 0 k)) d := by
  pointwise [k0_pay4]
  rfl

/-- The largest magnitudes of the rows. -/
def amaxV (H : FVec Ideal S16384x4096 .f32) : FVec Ideal S16384x1 .f32 :=
  shapeCast S16384x1 (multiReduction .maximumf [1] S16384 (absf H) 0xFF800000#32 reduces_S16384x4096_S16384 (.inl rfl) rfl) shapeCasts_S16384_S16384x1

theorem amaxV_apply (H : FVec Ideal S16384x4096 .f32) (r : Fin 16384) : amaxV H (ix2 r 0) = amaxRow fun d => H (ix2 r d) := by
  unfold amaxV
  pointwise
  rfl

/-- The scaled largest magnitudes. -/
def scaledV (A : FVec Ideal S16384x1 .f32) : FVec Ideal S16384x1 .f32 := mulf A (broadcast S16384x1 (Scalar.ofBits .f32 0x3B124925#32))

theorem scaledV_apply (A : FVec Ideal S16384x1 .f32) (j : S16384x1.Idx) : scaledV A j = A j * Ideal.ofBits .f32 0x3B124925#32 := rfl

theorem exp2V_apply (A : FVec Ideal S16384x1 .f32) (j : S16384x1.Idx) : exp2 A j = Ideal.exp2 (A j) := rfl

theorem exp2_neg_int (n : ℤ) : FloatOps.exp2 (F := Ideal) (φ := .f32) ((0 : EReal) - ((n : ℝ) : EReal)) = pow2 (-n) := by
  rw [← exp2_int, zero_sub, ← EReal.coe_neg, ← Int.cast_neg]
  rfl

theorem sitofp_eq (b : BitVec 32) : FloatOps.sitofp (F := Ideal) .f32 b = ((b.toInt : ℝ) : EReal) := rfl

/-- The count of the powers that each scaled maximum reaches. -/
def countV (a : FVec Ideal S16384x1 .f32) (R : Vec Ideal S1x276 .f32) : FVec Ideal S16384x1 .f32 :=
  shapeCast S16384x1 (multiReduction .add [1] S16384 (select (cmpf .oge (broadcastTo S16384x276 a broadcasts_S16384x1_S16384x276)
      (broadcastTo S16384x276 (shapeCast S1x276 R shapeCasts_S1x276_S1x276 : FVec Ideal S1x276 .f32) broadcasts_S1x276_S16384x276))
    (broadcast S16384x276 (Scalar.ofBits .f32 0x3F800000#32 : Ideal .f32) : FVec Ideal S16384x276 .f32) (broadcast S16384x276 (Scalar.ofBits .f32 0x00000000#32 : Ideal .f32)))
    0x00000000#32 reduces_S16384x276_S16384 (.inl rfl) rfl) shapeCasts_S16384_S16384x1

theorem countV_apply (a : FVec Ideal S16384x1 .f32) (R : Vec Ideal S1x276 .f32) (r : Fin 16384) :
    countV a R (ix2 r 0) = ∑ k : Fin 276, if R (ix2 0 k) ≤ a (ix2 r 0) then 1 else 0 := by
  unfold countV
  pointwise

theorem ofBits_neg148 : Ideal.ofBits .f32 0xC3140000#32 = (((-148 : ℤ) : ℝ) : EReal) := by
  simp [Ideal.ofBits, Ideal.ieee, -EReal.coe_mul]
  norm_num

/-- The exponents from the count. -/
def expV (A a n : FVec Ideal S16384x1 .f32) : FVec Ideal S16384x1 .f32 :=
  select (ori (cmpf .oeq A (broadcast S16384x1 (Scalar.ofBits .f32 0x00000000#32))) (cmpf .oeq a (broadcast S16384x1 (Scalar.ofBits .f32 0x7F800000#32))))
    (broadcast S16384x1 (Scalar.ofBits .f32 0x00000000#32)) (addf n (broadcast S16384x1 (Scalar.ofBits .f32 0xC3140000#32)))

theorem expV_apply (A a n : FVec Ideal S16384x1 .f32) (r : Fin 16384) :
    expV A a n (ix2 r 0) = if A (ix2 r 0) = 0 ∨ a (ix2 r 0) = ⊤ then 0 else n (ix2 r 0) + (((-148 : ℤ) : ℝ) : EReal) := by
  unfold expV
  pointwise
  rw [ofBits_inf, ofBits_neg148]
  by_cases h1 : A (ix2 r 0) = 0 <;> by_cases h2 : a (ix2 r 0) = ⊤ <;> simp [h1, h2, IntOp.ori, Scalar.select]

theorem pay5_eq (X : Vec Ideal S16384x4096 .bf16) (G : Vec Ideal S1x4096 .f32) (R : Vec Ideal S1x276 .f32) :
    k0_pay5 X G R = expV (amaxV (k0_pay4 X G)) (scaledV (amaxV (k0_pay4 X G))) (countV (scaledV (amaxV (k0_pay4 X G))) R) := rfl

theorem count_real (a : EReal) :
    (∑ k : Fin 276, if pow2 ((k.val : ℤ) - 148) ≤ a then (1 : EReal) else 0)
      = (((((Finset.univ : Finset (Fin 276)).filter fun k => pow2 ((k.val : ℤ) - 148) ≤ a).card : ℤ) : ℝ) : EReal) := by
  rw [Finset.sum_boole]
  simp

theorem e_apply (X : Vec Ideal S16384x4096 .bf16) (G : Vec Ideal S1x4096 .f32) (R : Vec Ideal S1x276 .f32)
    (hR : ∀ k : Fin 276, R (ix2 0 k) = pow2 ((k.val : ℤ) - 148)) (r : Fin 16384) :
    k0_pay5 X G R (ix2 r 0) = (((expoRow (hRow (fun k => X (ix2 r k)) (fun k => G (ix2 0 k))) : ℤ) : ℝ) : EReal) := by
  have hH : (fun d => k0_pay4 X G (ix2 r d)) = hRow (fun k => X (ix2 r k)) (fun k => G (ix2 0 k)) := funext fun d => h_apply X G r d
  have hA : amaxV (k0_pay4 X G) (ix2 r 0) = amaxRow (hRow (fun k => X (ix2 r k)) (fun k => G (ix2 0 k))) := by rw [amaxV_apply, hH]
  have ha : scaledV (amaxV (k0_pay4 X G)) (ix2 r 0) = amaxRow (hRow (fun k => X (ix2 r k)) (fun k => G (ix2 0 k))) * Ideal.ofBits .f32 0x3B124925#32 := by
    rw [scaledV_apply, hA]
  rw [pay5_eq, expV_apply, countV_apply, hA, ha]
  simp only [hR]
  rw [count_real]
  unfold expoRow expo
  rcases scaled_cases _ (amaxRow_nonneg (hRow (fun k => X (ix2 r k)) (fun k => G (ix2 0 k)))) with ⟨h1, h2⟩ | ⟨h1, h2⟩ | ⟨ρ, hρ, h1, h2⟩
  · rw [if_pos (Or.inl h2), if_pos (Or.inl h1)]
    simp
  · rw [if_pos (Or.inr h1), if_pos (Or.inr h1)]
    simp
  · have h3 : ¬((ρ : EReal) = 0 ∨ (ρ : EReal) = ⊤) := by
      rintro (h | h)
      · exact hρ.ne' (EReal.coe_eq_zero.mp h)
      · exact EReal.coe_ne_top _ h
    rw [h1, if_neg (by rintro (h | h); · exact h2 h
                       · exact EReal.coe_ne_top _ h), if_neg h3, ← EReal.coe_add, ← Int.cast_add, sub_eq_add_neg]

variable (x0 : Vec Ideal S16384x4096 .bf16) (x1 : Vec Ideal S1x4096 .f32) (x2 : Vec Ideal S4096x12288 .fp8e4m3) (x3 : Vec Ideal S1x12288 .f32)
  (x4 : Vec Ideal S16384x1 .i32) (x5 : Vec Ideal S1x64 .f32) (x6 : Vec Ideal S1x276 .f32)

/-- The scales of the rows. -/
theorem scale_apply (hR : ∀ k : Fin 276, x6 (ix2 0 k) = pow2 ((k.val : ℤ) - 148)) (r : Fin 16384) :
    k0_pay6 x0 x1 x6 (ix2 r 0) = scaleRow (fun k => x0 (ix2 r k)) (fun k => x1 (ix2 0 k)) := by
  unfold k0_pay6
  rw [exp2V_apply, e_apply _ _ _ hR, exp2_int, scaleRow]

theorem clip_apply (H : FVec Ideal S16384x4096 .f32) (E : FVec Ideal S16384x1 .f32) (r : Fin 16384) (d : Fin 4096) (n : ℤ)
    (h1 : E (ix2 r 0) = ((n : ℝ) : EReal)) :
    k0_pay7 H E (ix2 r d) = min (Ideal.ofBits .f32 0x43E00000#32) (max (Ideal.ofBits .f32 0xC3E00000#32) (H (ix2 r d) * pow2 (-n))) := by
  pointwise [k0_pay7]
  rw [h1, exp2_neg_int]

/-- The codes of the rows. -/
theorem code_apply (hR : ∀ k : Fin 276, x6 (ix2 0 k) = pow2 ((k.val : ℤ) - 148)) (r : Fin 16384) (d : Fin 4096) :
    k0_pay7 (k0_pay4 x0 x1) (k0_pay5 x0 x1 x6) (ix2 r d) = codeRow (fun k => x0 (ix2 r k)) (fun k => x1 (ix2 0 k)) d := by
  rw [clip_apply _ _ r d _ (e_apply x0 x1 x6 hR r), h_apply, codeRow]

/-- The product at both scales. -/
theorem dot_apply (hR : ∀ k : Fin 276, x6 (ix2 0 k) = pow2 ((k.val : ℤ) - 148)) (r : Fin 16384) (d : Fin 12288) :
    k0_pay8 (k0_pay4 x0 x1) (k0_pay5 x0 x1 x6) (k0_pay6 x0 x1 x6) x2 x3 (ix2 r d)
      = dotRow (fun k => x0 (ix2 r k)) (fun k => x1 (ix2 0 k)) (fun k => x2 (ix2 k d)) (x3 (ix2 0 d)) := by
  have h1 := fun e => code_apply x0 x1 x6 hR r e
  have h2 := scale_apply x0 x1 x6 hR r
  revert h1 h2
  unfold k0_pay8
  generalize k0_pay7 (k0_pay4 x0 x1) (k0_pay5 x0 x1 x6) = C
  generalize k0_pay6 x0 x1 x6 = S
  intro h1 h2
  pointwise
  simp only [h1, h2]
  rfl

theorem q_apply (a : FVec Ideal S16384x4096 .f32) (b c : FVec Ideal S16384x1 .f32) (r : Fin 16384) (d : Fin 4096) :
    k0_pay1 (k0_pay14 a b c x2 x3 x4 x5) (ix2 r d)
      = rope (fun e => k0_pay8 a b c x2 x3 (ix2 r ⟨0 + d.val / 128 * 128 + e.val, by omega⟩)) (x4 (ix2 r 0)) (fun f => x5 (ix2 0 f)) ⟨d.val % 128, by omega⟩ := by
  unfold k0_pay14
  generalize k0_pay8 a b c x2 x3 = Y
  pointwise [k0_pay1, k0_pay12, k0_pay13, k0_pay11]
  have e1 : d.val / 128 * 128 + d.val % 128 = d.val := by omega
  have e2 : 64 + d.val % 128 = d.val % 128 + 64 := by omega
  unfold rope
  dsimp only
  by_cases h : d.val % 128 < 64
  · simp only [dif_pos h, Nat.add_assoc, Nat.zero_add, e1, e2, sitofp_eq]
  · have e3 : 64 + (d.val % 128 - 64) = d.val % 128 := by omega
    simp only [dif_neg h, Nat.add_assoc, Nat.zero_add, e1, e3, sitofp_eq]

theorem k_apply (a : FVec Ideal S16384x4096 .f32) (b c : FVec Ideal S16384x1 .f32) (r : Fin 16384) (d : Fin 4096) :
    k0_pay2 (k0_pay9 a b c x2 x3) (k0_pay12 x4 x5) (k0_pay13 x4 x5) (ix2 r d)
      = rope (fun e => k0_pay8 a b c x2 x3 (ix2 r ⟨4096 + d.val / 128 * 128 + e.val, by omega⟩)) (x4 (ix2 r 0)) (fun f => x5 (ix2 0 f)) ⟨d.val % 128, by omega⟩ := by
  unfold k0_pay9
  generalize k0_pay8 a b c x2 x3 = Y
  pointwise [k0_pay2, k0_pay12, k0_pay13, k0_pay11]
  have e1 : d.val / 128 * 128 + d.val % 128 = d.val := by omega
  have e2 : 64 + d.val % 128 = d.val % 128 + 64 := by omega
  unfold rope
  dsimp only
  by_cases h : d.val % 128 < 64
  · simp only [dif_pos h, Nat.add_assoc, Nat.zero_add, e1, e2, sitofp_eq]
  · have e3 : 64 + (d.val % 128 - 64) = d.val % 128 := by omega
    simp only [dif_neg h, Nat.add_assoc, Nat.zero_add, e1, e3, sitofp_eq]

theorem v_apply (a : FVec Ideal S16384x4096 .f32) (b c : FVec Ideal S16384x1 .f32) (r : Fin 16384) (d : Fin 4096) :
    k0_pay3 (k0_pay10 a b c x2 x3) (ix2 r d) = k0_pay8 a b c x2 x3 (ix2 r ⟨8192 + d.val, by omega⟩) := by
  unfold k0_pay10
  generalize k0_pay8 a b c x2 x3 = Y
  pointwise [k0_pay3]

end Cert.ReferenceIdeal.Value

end
-- ==== Proof.Value.InputsR.lean ====
module

public import proofs.«01_k».proof.Proof.Value.Reference
public import proofs.«01_k».proof.Proof.Value.Layer
public import Idealize.ShloMosaic.Lib.Claim

@[expose] public section

set_option maxRecDepth 16384

noncomputable section

/-! The arrays the reference's body reads, as the host's operations make them from the arguments. -/

namespace Cert.ReferenceIdeal.Value

open Cert.ReferenceIdeal Cert.ReferenceIdeal.Gen Cert.Ladder Cert.Spec Idealize.ShloMosaic Idealize.ShloMosaic.TcCoe Idealize.SL.Sem

variable (m : (ℓ : Loc nD τ sig) → Buf (Elt Ideal) ℓ) (c : Dev nD)

/-- Two to an integer. -/
theorem two_pow (n : ℤ) : Ideal.pow (Ideal.ofBits .f32 0x40000000#32) ((n : ℝ) : EReal) = pow2 n := by
  have h2 : Ideal.ofBits .f32 0x40000000#32 = (((2 : ℝ)) : EReal) := by
    rw [ofBits_field 0x40000000#32 128 (by decide) (by decide) (by decide) (by decide) (by decide), pow2]
    norm_num
  rw [h2, Ideal.pow_coe_coe, pow2]
  exact congrArg _ (Real.rpow_intCast 2 n)

theorem toInt_small (k : Fin 276) : (BitVec.ofNat 32 k.val).toInt = (k.val : ℤ) := by
  revert k
  decide

/-- The powers of two that the exponent is counted against. -/
theorem powers_eq (k : Fin 276) : (V m c main_v21 : Vec Ideal S1x276 .f32) (ix2 0 k) = pow2 ((k.val : ℤ) - 148) := by
  entry_read
  pointwise
  rw [ofBits_neg148, sitofp_eq, toInt_small, ← EReal.coe_add, ← Int.cast_add, two_pow]
  exact congrArg pow2 (by omega)

/-- The frequencies. -/
theorem freq_eq (f : Fin 64) : (V m c main_v20 : Vec Ideal S1x64 .f32) (ix2 0 f) = invF f := by
  entry_read
  pointwise
  rfl

theorem x_eq : (V m c main_v16 : Vec Ideal S16384x4096 .bf16)
    = shapeCast S16384x4096 (m ((c : Thread nD τ).loc main_arg0)) shapeCasts_S8x2048x4096_S16384x4096 := by
  entry_read
  rfl

theorem gain_eq : (V m c main_v17 : Vec Ideal S1x4096 .f32) = shapeCast S1x4096 (m ((c : Thread nD τ).loc main_arg1)) shapeCasts_S4096_S1x4096 := by
  entry_read
  rfl

theorem wscale_eq : (V m c main_v18 : Vec Ideal S1x12288 .f32) = shapeCast S1x12288 (m ((c : Thread nD τ).loc main_arg3)) shapeCasts_S12288_S1x12288 := by
  entry_read
  rfl

theorem pos_eq : (V m c main_v19 : Vec Ideal S16384x1 .i32) = shapeCast S16384x1 (m ((c : Thread nD τ).loc main_arg4)) shapeCasts_S8x2048_S16384x1 := by
  entry_read
  rfl

theorem w_eq : (V m c main_arg2 : Vec Ideal S4096x12288 .fp8e4m3) = m ((c : Thread nD τ).loc main_arg2) := V_main_arg2 m c

end Cert.ReferenceIdeal.Value

end
-- ==== Proof.Value.ArraysR.lean ====
module

public import proofs.«01_k».proof.Proof.Value.InputsR
public import proofs.«01_k».proof.Proof.Reference.Blocks
public import Idealize.ShloMosaic.Lib.Pipeline.ValueKit.Geometry

@[expose] public section

set_option maxRecDepth 16384

noncomputable section

/-! The reference's five arrays, element by element. -/

namespace Cert.ReferenceIdeal.Value

open Cert.ReferenceIdeal Cert.ReferenceIdeal.Gen Cert.Ladder Cert.Spec Idealize.ShloMosaic Idealize.ShloMosaic.TcCoe Idealize.SL.Sem

theorem hz' : (![0, 0] : Fin 2 → Nat) = fun _ => 0 := funext hz

section body

variable (x0 : Vec Ideal S16384x4096 .bf16) (x1 : Vec Ideal S1x4096 .f32) (x2 : Vec Ideal S4096x12288 .fp8e4m3) (x3 : Vec Ideal S1x12288 .f32)
  (x4 : Vec Ideal S16384x1 .i32) (x5 : Vec Ideal S1x64 .f32) (x6 : Vec Ideal S1x276 .f32)

theorem ld0 : View.ld x0 r0_0 = x0 := View.ld_unit_zero (S := S16384x4096) hz' _ x0
theorem ld1 : View.ld x1 r0_1 = x1 := View.ld_unit_zero (S := S1x4096) hz' _ x1
theorem ld2 : View.ld x2 r0_3 = x2 := View.ld_unit_zero (S := S4096x12288) hz' _ x2
theorem ld3 : View.ld x3 r0_4 = x3 := View.ld_unit_zero (S := S1x12288) hz' _ x3
theorem ld4 : View.ld x4 r0_5 = x4 := View.ld_unit_zero (S := S16384x1) hz' _ x4
theorem ld5 : View.ld x5 r0_6 = x5 := View.ld_unit_zero (S := S1x64) hz' _ x5
theorem ld6 : View.ld x6 r0_2 = x6 := View.ld_unit_zero (S := S1x276) hz' _ x6

variable (hR : ∀ k : Fin 276, x6 (ix2 0 k) = pow2 ((k.val : ℤ) - 148)) (hF : ∀ f : Fin 64, x5 (ix2 0 f) = invF f)

include hF in
/-- A head of the specification, by the columns the slices give it. -/
theorem head_col (x g : Fin 4096 → EReal) (p : BitVec 32) (off : Nat) (h128 : off % 128 = 0) (h : off ≤ 8192) (d : Fin 4096) (D : Fin 12288 → EReal)
    (hD : ∀ C, D C = dotRow x g (fun k => x2 (ix2 k C)) (x3 (ix2 0 C))) :
    rope (fun e => D ⟨off + d.val / 128 * 128 + e.val, by omega⟩) p (fun f => x5 (ix2 0 f)) ⟨d.val % 128, by omega⟩
      = headAt x g (fun k C => x2 (ix2 k C)) (fun C => x3 (ix2 0 C)) p ⟨off + d.val, by omega⟩ := by
  have e1 : ∀ e : Fin 128, (⟨off + d.val / 128 * 128 + e.val, by omega⟩ : Fin 12288) = ⟨(off + d.val) / 128 * 128 + e.val, by omega⟩ := fun e =>
    Fin.ext (show off + d.val / 128 * 128 + e.val = (off + d.val) / 128 * 128 + e.val by omega)
  have e2 : (⟨d.val % 128, by omega⟩ : Fin 128) = ⟨(off + d.val) % 128, by omega⟩ := Fin.ext (show d.val % 128 = (off + d.val) % 128 by omega)
  rw [headAt, e2]
  refine congrArg₂ (fun a b => rope a p b ⟨(off + d.val) % 128, by omega⟩) (funext fun e => ?_) (funext hF)
  rw [e1 e, hD]

include hR hF in
theorem out7_apply (r : Fin 16384) (d : Fin 4096) :
    out0_7 x0 x1 x2 x3 x4 x5 x6 (ix2 r d)
      = headAt (fun k => x0 (ix2 r k)) (fun k => x1 (ix2 0 k)) (fun k C => x2 (ix2 k C)) (fun C => x3 (ix2 0 C)) (x4 (ix2 r 0)) ⟨0 + d.val, by omega⟩ := by
  unfold_out out0_7
  rw [View.canon_unit_zero hz', ld0, ld1, ld2, ld3, ld4, ld5, ld6, q_apply]
  exact head_col x2 x3 x5 hF _ _ _ 0 rfl (by omega) d (fun C => k0_pay8 (k0_pay4 x0 x1) (k0_pay5 x0 x1 x6) (k0_pay6 x0 x1 x6) x2 x3 (ix2 r C))
    (fun C => dot_apply x0 x1 x2 x3 x6 hR r C)

include hR hF in
theorem out8_apply (r : Fin 16384) (d : Fin 4096) :
    out0_8 x0 x1 x2 x3 x4 x5 x6 (ix2 r d)
      = headAt (fun k => x0 (ix2 r k)) (fun k => x1 (ix2 0 k)) (fun k C => x2 (ix2 k C)) (fun C => x3 (ix2 0 C)) (x4 (ix2 r 0)) ⟨4096 + d.val, by omega⟩ := by
  unfold_out out0_8
  rw [View.canon_unit_zero hz', ld0, ld1, ld2, ld3, ld4, ld5, ld6, k_apply]
  exact head_col x2 x3 x5 hF _ _ _ 4096 rfl (by omega) d (fun C => k0_pay8 (k0_pay4 x0 x1) (k0_pay5 x0 x1 x6) (k0_pay6 x0 x1 x6) x2 x3 (ix2 r C))
    (fun C => dot_apply x0 x1 x2 x3 x6 hR r C)

include hR in
theorem out9_apply (r : Fin 16384) (d : Fin 4096) :
    out0_9 x0 x1 x2 x3 x4 x5 x6 (ix2 r d)
      = dotAt (fun k => x0 (ix2 r k)) (fun k => x1 (ix2 0 k)) (fun k C => x2 (ix2 k C)) (fun C => x3 (ix2 0 C)) ⟨8192 + d.val, by omega⟩ := by
  unfold_out out0_9
  rw [View.canon_unit_zero hz', ld0, ld1, ld2, ld3, ld6, v_apply, dot_apply x0 x1 x2 x3 x6 hR, dotAt]

include hR in
theorem out10_apply (r : Fin 16384) (d : Fin 4096) :
    out0_10 x0 x1 x2 x3 x4 x5 x6 (ix2 r d) = codeRow (fun k => x0 (ix2 r k)) (fun k => x1 (ix2 0 k)) d := by
  unfold_out out0_10
  rw [View.canon_unit_zero hz', ld0, ld1, ld6, code_apply x0 x1 x6 hR]

include hR in
theorem out11_apply (r : Fin 16384) :
    out0_11 x0 x1 x2 x3 x4 x5 x6 (ix2 r 0) = scaleRow (fun k => x0 (ix2 r k)) (fun k => x1 (ix2 0 k)) := by
  unfold_out out0_11
  rw [View.canon_unit_zero hz', ld0, ld1, ld6, scale_apply x0 x1 x6 hR]

end body

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)

theorem blk0 (t : Fin cfg0.N) : (iblk m c 0 t : Vec Ideal S16384x4096 .bf16) = V m c main_v16 := by
  refine funext fun y => ?_
  blk_simp [iblk]
  refine congrArg (V m c main_v16) ?_
  blk_ext [index0]
theorem blk1 (t : Fin cfg0.N) : (iblk m c 1 t : Vec Ideal S1x4096 .f32) = V m c main_v17 := by
  refine funext fun y => ?_
  blk_simp [iblk]
  refine congrArg (V m c main_v17) ?_
  blk_ext [index1]
theorem blk2 (t : Fin cfg0.N) : (iblk m c 2 t : Vec Ideal S4096x12288 .fp8e4m3) = V m c main_arg2 := by
  refine funext fun y => ?_
  blk_simp [iblk]
  refine congrArg (V m c main_arg2) ?_
  blk_ext [index2]
theorem blk3 (t : Fin cfg0.N) : (iblk m c 3 t : Vec Ideal S1x12288 .f32) = V m c main_v18 := by
  refine funext fun y => ?_
  blk_simp [iblk]
  refine congrArg (V m c main_v18) ?_
  blk_ext [index3]
theorem blk4 (t : Fin cfg0.N) : (iblk m c 4 t : Vec Ideal S16384x1 .i32) = V m c main_v19 := by
  refine funext fun y => ?_
  blk_simp [iblk]
  refine congrArg (V m c main_v19) ?_
  blk_ext [index4]
theorem blk5 (t : Fin cfg0.N) : (iblk m c 5 t : Vec Ideal S1x64 .f32) = V m c main_v20 := by
  refine funext fun y => ?_
  blk_simp [iblk]
  refine congrArg (V m c main_v20) ?_
  blk_ext [index5]
theorem blk6 (t : Fin cfg0.N) : (iblk m c 6 t : Vec Ideal S1x276 .f32) = V m c main_v21 := by
  refine funext fun y => ?_
  blk_simp [iblk]
  refine congrArg (V m c main_v21) ?_
  blk_ext [index6]

/-- Row `R` of the activations. -/
def xRow (R : Fin 16384) : Fin 4096 → EReal := fun k => (V m c main_v16 : Vec Ideal S16384x4096 .bf16) (ix2 R k)
/-- The gain. -/
def gRow : Fin 4096 → EReal := fun k => (V m c main_v17 : Vec Ideal S1x4096 .f32) (ix2 0 k)
/-- The weights. -/
def wMat : Fin 4096 → Fin 12288 → EReal := fun k C => (V m c main_arg2 : Vec Ideal S4096x12288 .fp8e4m3) (ix2 k C)
/-- The weights' scales. -/
def sRow : Fin 12288 → EReal := fun C => (V m c main_v18 : Vec Ideal S1x12288 .f32) (ix2 0 C)
/-- The position of row `R`. -/
def posOf (R : Fin 16384) : BitVec 32 := (V m c main_v19 : Vec Ideal S16384x1 .i32) (ix2 R 0)

/-- The queries. -/
def qArr : Vec Ideal S16384x4096 .bf16 := fun y =>
  headAt (xRow m c (y 0)) (gRow m c) (wMat m c) (sRow m c) (posOf m c (y 0)) ⟨0 + (y 1).val, by have : (y 1).val < 4096 := (y 1).isLt; omega⟩
/-- The keys. -/
def kArr : Vec Ideal S16384x4096 .bf16 := fun y =>
  headAt (xRow m c (y 0)) (gRow m c) (wMat m c) (sRow m c) (posOf m c (y 0)) ⟨4096 + (y 1).val, by have : (y 1).val < 4096 := (y 1).isLt; omega⟩
/-- The values. -/
def vArr : Vec Ideal S16384x4096 .bf16 := fun y =>
  dotAt (xRow m c (y 0)) (gRow m c) (wMat m c) (sRow m c) ⟨8192 + (y 1).val, by have : (y 1).val < 4096 := (y 1).isLt; omega⟩
/-- The codes. -/
def codesArr : Vec Ideal S16384x4096 .fp8e4m3 := fun y => codeRow (xRow m c (y 0)) (gRow m c) (y 1)
/-- The scales. -/
def scalesArr : Vec Ideal S16384x1 .f32 := fun y => scaleRow (xRow m c (y 0)) (gRow m c)

theorem eq7 : out0_7 (V m c main_v16) (V m c main_v17) (V m c main_arg2) (V m c main_v18) (V m c main_v19) (V m c main_v20) (V m c main_v21) = qArr m c := by
  refine funext fun y => ?_
  obtain ⟨r, d, rfl⟩ : ∃ (r : Fin 16384) (d : Fin 4096), y = ix2 r d := ⟨y 0, y 1, eq_ix2 y⟩
  exact out7_apply _ _ _ _ _ _ _ (powers_eq m c) (freq_eq m c) r d

theorem eq8 : out0_8 (V m c main_v16) (V m c main_v17) (V m c main_arg2) (V m c main_v18) (V m c main_v19) (V m c main_v20) (V m c main_v21) = kArr m c := by
  refine funext fun y => ?_
  obtain ⟨r, d, rfl⟩ : ∃ (r : Fin 16384) (d : Fin 4096), y = ix2 r d := ⟨y 0, y 1, eq_ix2 y⟩
  exact out8_apply _ _ _ _ _ _ _ (powers_eq m c) (freq_eq m c) r d

theorem eq9 : out0_9 (V m c main_v16) (V m c main_v17) (V m c main_arg2) (V m c main_v18) (V m c main_v19) (V m c main_v20) (V m c main_v21) = vArr m c := by
  refine funext fun y => ?_
  obtain ⟨r, d, rfl⟩ : ∃ (r : Fin 16384) (d : Fin 4096), y = ix2 r d := ⟨y 0, y 1, eq_ix2 y⟩
  exact out9_apply _ _ _ _ _ _ _ (powers_eq m c) r d

theorem eq10 : out0_10 (V m c main_v16) (V m c main_v17) (V m c main_arg2) (V m c main_v18) (V m c main_v19) (V m c main_v20) (V m c main_v21) = codesArr m c := by
  refine funext fun y => ?_
  obtain ⟨r, d, rfl⟩ : ∃ (r : Fin 16384) (d : Fin 4096), y = ix2 r d := ⟨y 0, y 1, eq_ix2 y⟩
  exact out10_apply _ _ _ _ _ _ _ (powers_eq m c) r d

theorem eq11 : out0_11 (V m c main_v16) (V m c main_v17) (V m c main_arg2) (V m c main_v18) (V m c main_v19) (V m c main_v20) (V m c main_v21) = scalesArr m c := by
  refine funext fun y => ?_
  obtain ⟨r, z, rfl⟩ : ∃ (r : Fin 16384) (z : Fin 1), y = ix2 r z := ⟨y 0, y 1, eq_ix2 y⟩
  obtain rfl : z = 0 := Subsingleton.elim _ _
  exact out11_apply _ _ _ _ _ _ _ (powers_eq m c) r

theorem arr7 : (dats m 0 c).arrAt 7 cfg0.N = qArr m c := by
  refine (dats m 0 c).arrAt_eq_of_after_last 7 ⟨0, by decide⟩ (by decide +kernel) _ fun j => ?_
  rw [after0_7, blk0, blk1, blk2, blk3, blk4, blk5, blk6, eq7]
  rfl

theorem arr8 : (dats m 0 c).arrAt 8 cfg0.N = kArr m c := by
  refine (dats m 0 c).arrAt_eq_of_after_last 8 ⟨0, by decide⟩ (by decide +kernel) _ fun j => ?_
  rw [after0_8, blk0, blk1, blk2, blk3, blk4, blk5, blk6, eq8]
  rfl

theorem arr9 : (dats m 0 c).arrAt 9 cfg0.N = vArr m c := by
  refine (dats m 0 c).arrAt_eq_of_after_last 9 ⟨0, by decide⟩ (by decide +kernel) _ fun j => ?_
  rw [after0_9, blk0, blk1, blk2, blk3, blk4, blk5, blk6, eq9]
  rfl

theorem arr10 : (dats m 0 c).arrAt 10 cfg0.N = codesArr m c := by
  refine (dats m 0 c).arrAt_eq_of_after_last 10 ⟨0, by decide⟩ (by decide +kernel) _ fun j => ?_
  rw [after0_10, blk0, blk1, blk2, blk3, blk4, blk5, blk6, eq10]
  rfl

theorem arr11 : (dats m 0 c).arrAt 11 cfg0.N = scalesArr m c := by
  refine (dats m 0 c).arrAt_eq_of_after_last 11 ⟨0, by decide⟩ (by decide +kernel) _ fun j => ?_
  rw [after0_11, blk0, blk1, blk2, blk3, blk4, blk5, blk6, eq11]
  rfl

end Cert.ReferenceIdeal.Value

end
-- ==== Proof.Value.Algebraic.lean ====
module

public import proofs.«01_k».proof.Defs
public import proofs.«01_k».proof.Proof.Value.ArraysK
public import proofs.«01_k».proof.Proof.Value.ArraysR

@[expose] public section

set_option maxRecDepth 16384

noncomputable section

/-! The kernel and the reference leave the same five arrays. -/

namespace Cert.Algebraic

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem xRow_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.xRow m' c = Cert.KernelIdeal.Value.xRow m c := by
  unfold Cert.ReferenceIdeal.Value.xRow Cert.KernelIdeal.Value.xRow
  rw [Cert.ReferenceIdeal.Value.x_eq, Cert.KernelIdeal.Value.x_eq, h]

theorem gRow_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.gRow m' c = Cert.KernelIdeal.Value.gRow m c := by
  unfold Cert.ReferenceIdeal.Value.gRow Cert.KernelIdeal.Value.gRow
  rw [Cert.ReferenceIdeal.Value.gain_eq, Cert.KernelIdeal.Value.gain_eq, h]

theorem wMat_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.wMat m' c = Cert.KernelIdeal.Value.wMat m c := by
  unfold Cert.ReferenceIdeal.Value.wMat Cert.KernelIdeal.Value.wMat
  rw [Cert.ReferenceIdeal.Value.w_eq, Cert.KernelIdeal.Value.w_eq, h]

theorem sRow_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.sRow m' c = Cert.KernelIdeal.Value.sRow m c := by
  unfold Cert.ReferenceIdeal.Value.sRow Cert.KernelIdeal.Value.sRow
  rw [Cert.ReferenceIdeal.Value.wscale_eq, Cert.KernelIdeal.Value.wscale_eq, h]

theorem posOf_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.posOf m' c = Cert.KernelIdeal.Value.posOf m c := by
  unfold Cert.ReferenceIdeal.Value.posOf Cert.KernelIdeal.Value.posOf
  rw [Cert.ReferenceIdeal.Value.pos_eq, Cert.KernelIdeal.Value.pos_eq, h]

/-- On the same arguments the two programs leave the same arrays. -/
theorem arrays_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.qArr m' c = Cert.KernelIdeal.Value.qArr m c ∧ Cert.ReferenceIdeal.Value.kArr m' c = Cert.KernelIdeal.Value.kArr m c
      ∧ Cert.ReferenceIdeal.Value.vArr m' c = Cert.KernelIdeal.Value.vArr m c ∧ Cert.ReferenceIdeal.Value.codesArr m' c = Cert.KernelIdeal.Value.codesArr m c
      ∧ Cert.ReferenceIdeal.Value.scalesArr m' c = Cert.KernelIdeal.Value.scalesArr m c := by
  have ex := xRow_eq m m' c h0
  have eg := gRow_eq m m' c h1
  have ew := wMat_eq m m' c h2
  have es := sRow_eq m m' c h3
  have ep := posOf_eq m m' c h4
  refine ⟨funext fun y => ?_, funext fun y => ?_, funext fun y => ?_, funext fun y => ?_, funext fun y => ?_⟩
  · unfold Cert.ReferenceIdeal.Value.qArr Cert.KernelIdeal.Value.qArr
    dsimp only
    rw [ex, eg, ew, es, ep]
    exact congrArg (Cert.Spec.headAt _ _ _ _ _) (Fin.ext (Nat.zero_add _))
  · unfold Cert.ReferenceIdeal.Value.kArr Cert.KernelIdeal.Value.kArr
    dsimp only
    rw [ex, eg, ew, es, ep]
  · unfold Cert.ReferenceIdeal.Value.vArr Cert.KernelIdeal.Value.vArr
    dsimp only
    rw [ex, eg, ew, es]
  · unfold Cert.ReferenceIdeal.Value.codesArr Cert.KernelIdeal.Value.codesArr
    rw [ex, eg]
  · unfold Cert.ReferenceIdeal.Value.scalesArr Cert.KernelIdeal.Value.scalesArr
    rw [ex, eg]

/-- The algebraic claim. -/
theorem algebraic : Cert.algebraic_KernelIdeal_ReferenceIdeal (hKernelIdeal := Cert.KernelIdeal.Gen.facts) (hReferenceIdeal := Cert.ReferenceIdeal.Gen.facts) := by
  intro m g m' g' _ hin
  refine ⟨fun c => Cert.KernelIdeal.Value.qArr m c, fun c => Cert.KernelIdeal.Value.kArr m c, fun c => Cert.KernelIdeal.Value.vArr m c,
    fun c => Cert.KernelIdeal.Value.codesArr m c, fun c => Cert.KernelIdeal.Value.scalesArr m c, ?_, ?_⟩
  · refine (θ_run _ _ _).mono (fun r h c => ?_) (Cert.KernelIdeal.Value.run_blocks m g)
    obtain ⟨a0, a1, a2, a3, a4, rest⟩ := h c
    exact ⟨a0.trans (Cert.KernelIdeal.Value.arr6 m c), a1.trans (Cert.KernelIdeal.Value.arr7 m c), a2.trans (Cert.KernelIdeal.Value.arr8 m c),
      a3.trans (Cert.KernelIdeal.Value.arr9 m c), a4.trans (Cert.KernelIdeal.Value.arr10 m c), rest⟩
  · refine (θ_run _ _ _).mono (fun r h c => ?_) (Cert.ReferenceIdeal.Value.run_blocks m' g')
    obtain ⟨a0, a1, a2, a3, a4, rest⟩ := h c
    obtain ⟨h0, h1, h2, h3, h4⟩ := hin c
    obtain ⟨e0, e1, e2, e3, e4⟩ := arrays_eq m m' c h0 h1 h2 h3 h4
    exact ⟨a0.trans ((Cert.ReferenceIdeal.Value.arr7 m' c).trans e0), a1.trans ((Cert.ReferenceIdeal.Value.arr8 m' c).trans e1),
      a2.trans ((Cert.ReferenceIdeal.Value.arr9 m' c).trans e2), a3.trans ((Cert.ReferenceIdeal.Value.arr10 m' c).trans e3),
      a4.trans ((Cert.ReferenceIdeal.Value.arr11 m' c).trans e4), rest⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Reference.Blocks
public import proofs.«01_k».proof.Proof.Region.Blocks
public import proofs.«01_k».proof.Proof.Region.Same
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Same.frame,
  fun m ρ _ => Cert.KernelIdeal.Gen.frame m ρ,
  fun m ρ _ => Cert.ReferenceIdeal.Gen.frame m ρ,
  trivial,
  Cert.Algebraic.algebraic⟩

end Cert.Proof

end
